-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_3)) (v2 : (c : Dev Cert.Kernel2Ideal.nD) → Buf (Elt Ideal) ((c.tc : Thread Cert.Kernel2Ideal.nD Cert.Kernel2Ideal.τ).loc Cert.Kernel2Ideal.main_v10_4)) (v3 : (c : Dev Cert.Kernel2Ideal.nD) → Buf (Elt Ideal) ((c.tc : Thread Cert.Kernel2Ideal.nD Cert.Kernel2Ideal.τ).loc Cert.Kernel2Ideal.main_v10_5)) (v4 : (c : Dev Cert.Kernel2Ideal.nD) → Buf (Elt Ideal) ((c.tc : Thread Cert.Kernel2Ideal.nD Cert.Kernel2Ideal.τ).loc Cert.Kernel2Ideal.main_v10_6)) (v5 : (c : Dev Cert.Kernel2Ideal.nD) → Buf (Elt Ideal) ((c.tc : Thread Cert.Kernel2Ideal.nD Cert.Kernel2Ideal.τ).loc Cert.Kernel2Ideal.main_v10_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_3) = v1 c
          ∧ r.2.mem ((c.tc : Thread Cert.Kernel2Ideal.nD Cert.Kernel2Ideal.τ).loc Cert.Kernel2Ideal.main_v10_4) = v2 c
          ∧ r.2.mem ((c.tc : Thread Cert.Kernel2Ideal.nD Cert.Kernel2Ideal.τ).loc Cert.Kernel2Ideal.main_v10_5) = v3 c
          ∧ r.2.mem ((c.tc : Thread Cert.Kernel2Ideal.nD Cert.Kernel2Ideal.τ).loc Cert.Kernel2Ideal.main_v10_6) = v4 c
          ∧ r.2.mem ((c.tc : Thread Cert.Kernel2Ideal.nD Cert.Kernel2Ideal.τ).loc Cert.Kernel2Ideal.main_v10_7) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_v49) = v2 c
          ∧ r.2.mem ((c.tc : Thread Cert.Reference2Ideal.nD Cert.Reference2Ideal.τ).loc Cert.Reference2Ideal.main_v72) = v3 c
          ∧ r.2.mem ((c.tc : Thread Cert.Reference2Ideal.nD Cert.Reference2Ideal.τ).loc Cert.Reference2Ideal.main_v73) = v4 c
          ∧ r.2.mem ((c.tc : Thread Cert.Reference2Ideal.nD Cert.Reference2Ideal.τ).loc Cert.Reference2Ideal.main_v81) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S16384x1024 : Shape := ⟨2, ![16384, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S16384x1024 .f32) (main_arg1 : FVec F S1024x2816 .f32) (main_arg2 : FVec F S1024x2816 .f32) (main_arg3 : FVec F S2816x1024 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S16384x1024 .f32 := Host.absf main_arg4
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_v13 main_v16
-- ==== Kernel.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S2048x2816 : Shape := ⟨2, ![2048, 2816]⟩
abbrev S2048x4x704 : Shape := ⟨3, ![2048, 4, 704]⟩
abbrev S4x2048x704 : Shape := ⟨3, ![4, 2048, 704]⟩
abbrev S_ : Shape := ⟨0, ![]⟩
abbrev S4x1024x1024 : Shape := ⟨3, ![4, 1024, 1024]⟩
abbrev S4x704x1024 : Shape := ⟨3, ![4, 704, 1024]⟩
abbrev S4x1728x1024 : Shape := ⟨3, ![4, 1728, 1024]⟩
abbrev S16384x4x704 : Shape := ⟨3, ![16384, 4, 704]⟩
abbrev S4x16384x704 : Shape := ⟨3, ![4, 16384, 704]⟩
abbrev S2x16384x1024 : Shape := ⟨3, ![2, 16384, 1024]⟩
abbrev S4x1408x1024 : Shape := ⟨3, ![4, 1408, 1024]⟩
abbrev S512x1024 : Shape := ⟨2, ![512, 1024]⟩
abbrev S2x512x704 : Shape := ⟨3, ![2, 512, 704]⟩
abbrev S1x512x1024 : Shape := ⟨3, ![1, 512, 1024]⟩
abbrev S2x1024x704 : Shape := ⟨3, ![2, 1024, 704]⟩
abbrev S2x704x1024 : Shape := ⟨3, ![2, 704, 1024]⟩
abbrev S3 : Shape := ⟨1, ![3]⟩
abbrev S1 : Shape := ⟨1, ![1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩
abbrev S1x1024x704 : Shape := ⟨3, ![1, 1024, 704]⟩
abbrev S1024x704 : Shape := ⟨2, ![1024, 704]⟩

abbrev nBuf : Space → Nat
  | .hbm => 27
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2048x2816, .f32⟩
  | .hbm, ⟨8, _⟩ => ⟨S2048x4x704, .f32⟩
  | .hbm, ⟨9, _⟩ => ⟨S4x2048x704, .f32⟩
  | .hbm, ⟨10, _⟩ => ⟨S4x2048x704, .bf16⟩
  | .hbm, ⟨11, _⟩ => ⟨S_, .f32⟩
  | .hbm, ⟨12, _⟩ => ⟨S4x1024x1024, .f32⟩
  | .hbm, ⟨13, _⟩ => ⟨S4x704x1024, .f32⟩
  | .hbm, ⟨14, _⟩ => ⟨S4x1728x1024, .f32⟩
  | .hbm, ⟨15, _⟩ => ⟨S4x1728x1024, .bf16⟩
  | .hbm, ⟨16, _⟩ => ⟨S16384x1024, .bf16⟩
  | .hbm, ⟨17, _⟩ => ⟨S16384x1024, .bf16⟩
  | .hbm, ⟨18, _⟩ => ⟨S16384x4x704, .f32⟩
  | .hbm, ⟨19, _⟩ => ⟨S4x16384x704, .f32⟩
  | .hbm, ⟨20, _⟩ => ⟨S4x16384x704, .bf16⟩
  | .hbm, ⟨21, _⟩ => ⟨S16384x4x704, .f32⟩
  | .hbm, ⟨22, _⟩ => ⟨S4x16384x704, .f32⟩
  | .hbm, ⟨23, _⟩ => ⟨S4x16384x704, .bf16⟩
  | .hbm, ⟨24, _⟩ => ⟨S2x16384x1024, .bf16⟩
  | .hbm, ⟨25, _⟩ => ⟨S4x1408x1024, .bf16⟩
  | .hbm, ⟨26, _⟩ => ⟨S4x704x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2x512x704, .bf16⟩
  | .local _ .vmem, ⟨5, _⟩ => ⟨S2x512x704, .bf16⟩
  | .local _ .vmem, ⟨6, _⟩ => ⟨S2x512x704, .bf16⟩
  | .local _ .vmem, ⟨7, _⟩ => ⟨S2x512x704, .bf16⟩
  | .local _ .vmem, ⟨8, _⟩ => ⟨S1x512x1024, .bf16⟩
  | .local _ .vmem, ⟨9, _⟩ => ⟨S1x512x1024, .bf16⟩
  | .local _ .vmem, ⟨10, _⟩ => ⟨S2x1024x704, .bf16⟩
  | .local _ .vmem, ⟨11, _⟩ => ⟨S2x1024x704, .bf16⟩
  | .local _ .vmem, ⟨12, _⟩ => ⟨S2x704x1024, .bf16⟩
  | .local _ .vmem, ⟨13, _⟩ => ⟨S2x704x1024, .f32⟩
  | .local _ .vmem, ⟨14, _⟩ => ⟨S2x704x1024, .f32⟩
  | .local _ .vmem, ⟨15, _⟩ => ⟨S2x704x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_off1 (i : grid0.Coords) : Fin 3 → Nat :=
  let c2_i32 : BitVec 32 := 2#32
  let arg0 : BitVec 32 := BitVec.ofNat 32 (i 0).val
  let v0 : BitVec 32 := Scalar.muli c2_i32 arg0
  let c0_i32_108_r0 : BitVec 32 := 0#32
  let c0_i32_109_r0 : BitVec 32 := 0#32
  ![v0.toNat, 0, 0]
def k0_off2 (i : grid0.Coords) : Fin 3 → Nat :=
  let c2_i32 : BitVec 32 := 2#32
  let arg0 : BitVec 32 := BitVec.ofNat 32 (i 0).val
  let v0 : BitVec 32 := Scalar.muli c2_i32 arg0
  let c1024_i32_r0 : BitVec 32 := 1024#32
  let c0_i32_110_r0 : BitVec 32 := 0#32
  ![v0.toNat, 1024, 0]
def k0_off3 (i : grid0.Coords) : Fin 3 → Nat :=
  let c2_i32 : BitVec 32 := 2#32
  let arg0 : BitVec 32 := BitVec.ofNat 32 (i 0).val
  let v0 : BitVec 32 := Scalar.muli c2_i32 arg0
  let c1024_i32_112_r0 : BitVec 32 := 1024#32
  let c0_i32_113_r0 : BitVec 32 := 0#32
  ![v0.toNat, 1024, 0]
def k0_cond2 (i : grid0.Coords) : BitVec 1 :=
  let arg1 : BitVec 32 := BitVec.ofNat 32 (i 1).val
  let c31_i32 : BitVec 32 := 31#32
  let v131 : BitVec 1 := Scalar.cmpi .eq arg1 c31_i32
  let v132 : BitVec 32 := Scalar.extui v131
  let c0_i32_94 : BitVec 32 := 0#32
  let v133 : BitVec 1 := Scalar.cmpi .ne v132 c0_i32_94
  v133

def k0_off4 (i : grid0.Coords) : Fin 3 → Nat :=
  let c2_i32 : BitVec 32 := 2#32
  let arg0 : BitVec 32 := BitVec.ofNat 32 (i 0).val
  let v0 : BitVec 32 := Scalar.muli c2_i32 arg0
  let c0_i32_113_r1 : BitVec 32 := 0#32
  let c0_i32_114_r1 : BitVec 32 := 0#32
  ![v0.toNat, 0, 0]
def k0_off5 (i : grid0.Coords) : Fin 3 → Nat :=
  let c2_i32 : BitVec 32 := 2#32
  let arg0 : BitVec 32 := BitVec.ofNat 32 (i 0).val
  let v0 : BitVec 32 := Scalar.muli c2_i32 arg0
  let c704_i32_r2 : BitVec 32 := 704#32
  let c0_i32_113_r2 : BitVec 32 := 0#32
  ![v0.toNat, 704, 0]
def k0_off6 (i : grid0.Coords) : Fin 3 → Nat :=
  let c2_i32 : BitVec 32 := 2#32
  let arg0 : BitVec 32 := BitVec.ofNat 32 (i 0).val
  let v0 : BitVec 32 := Scalar.muli c2_i32 arg0
  let c0_i32_113_r3 : BitVec 32 := 0#32
  let c0_i32_114_r3 : BitVec 32 := 0#32
  ![v0.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩
abbrev S1024x1408 : Shape := ⟨2, ![1024, 1408]⟩
abbrev S1408x1024 : Shape := ⟨2, ![1408, 1024]⟩
abbrev S16384x1408 : Shape := ⟨2, ![16384, 1408]⟩
abbrev S1x16384x1024 : Shape := ⟨3, ![1, 16384, 1024]⟩
abbrev S2x16384x1024 : Shape := ⟨3, ![2, 16384, 1024]⟩
abbrev S4x704x1024 : Shape := ⟨3, ![4, 704, 1024]⟩
abbrev S4x1408x1024 : Shape := ⟨3, ![4, 1408, 1024]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S1024x2816, .f32⟩
  | .hbm, ⟨23, _⟩ => ⟨S2816x1024, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S2816x1024, .f32⟩
  | .hbm, ⟨28, _⟩ => ⟨S1024x2816, .f32⟩
  | .hbm, ⟨29, _⟩ => ⟨S16384x1024, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S2816x1024, .f32⟩
  | .hbm, ⟨35, _⟩ => ⟨S1024x2816, .f32⟩
  | .hbm, ⟨36, _⟩ => ⟨S16384x1024, .f32⟩
  | .hbm, ⟨37, _⟩ => ⟨S16384x1024, .f32⟩
  | .hbm, ⟨38, _⟩ => ⟨S1024x1408, .f32⟩
  | .hbm, ⟨39, _⟩ => ⟨S1024x1408, .f32⟩
  | .hbm, ⟨40, _⟩ => ⟨S1408x1024, .f32⟩
  | .hbm, ⟨41, _⟩ => ⟨S16384x1408, .f32⟩
  | .hbm, ⟨42, _⟩ => ⟨S16384x1408, .f32⟩
  | .hbm, ⟨43, _⟩ => ⟨S16384x1408, .f32⟩
  | .hbm, ⟨44, _⟩ => ⟨S_, .f32⟩
  | .hbm, ⟨45, _⟩ => ⟨S16384x1408, .f32⟩
  | .hbm, ⟨46, _⟩ => ⟨S16384x1408, .f32⟩
  | .hbm, ⟨47, _⟩ => ⟨S_, .f32⟩
  | .hbm, ⟨48, _⟩ => ⟨S16384x1408, .f32⟩
  | .hbm, ⟨49, _⟩ => ⟨S16384x1408, .f32⟩
  | .hbm, ⟨50, _⟩ => ⟨S_, .f32⟩
  | .hbm, ⟨51, _⟩ => ⟨S16384x1408, .f32⟩
  | .hbm, ⟨52, _⟩ => ⟨S16384x1408, .f32⟩
  | .hbm, ⟨53, _⟩ => ⟨S16384x1408, .f32⟩
  | .hbm, ⟨54, _⟩ => ⟨S16384x1408, .f32⟩
  | .hbm, ⟨55, _⟩ => ⟨S16384x1408, .f32⟩
  | .hbm, ⟨56, _⟩ => ⟨S16384x1408, .f32⟩
  | .hbm, ⟨57, _⟩ => ⟨S16384x1024, .f32⟩
  | .hbm, ⟨58, _⟩ => ⟨S16384x1408, .f32⟩
  | .hbm, ⟨59, _⟩ => ⟨S16384x1408, .f32⟩
  | .hbm, ⟨60, _⟩ => ⟨S16384x1408, .f32⟩
  | .hbm, ⟨61, _⟩ => ⟨S16384x1024, .f32⟩
  | .hbm, ⟨62, _⟩ => ⟨S16384x1408, .f32⟩
  | .hbm, ⟨63, _⟩ => ⟨S16384x1408, .f32⟩
  | .hbm, ⟨64, _⟩ => ⟨S16384x1408, .f32⟩
  | .hbm, ⟨65, _⟩ => ⟨S16384x1408, .f32⟩
  | .hbm, ⟨66, _⟩ => ⟨S16384x1024, .f32⟩
  | .hbm, ⟨67, _⟩ => ⟨S16384x1024, .f32⟩
  | .hbm, ⟨68, _⟩ => ⟨S1024x1408, .f32⟩
  | .hbm, ⟨69, _⟩ => ⟨S1024x1408, .f32⟩
  | .hbm, ⟨70, _⟩ => ⟨S1408x1024, .f32⟩
  | .hbm, ⟨71, _⟩ => ⟨S16384x1408, .f32⟩
  | .hbm, ⟨72, _⟩ => ⟨S16384x1408, .f32⟩
  | .hbm, ⟨73, _⟩ => ⟨S16384x1408, .f32⟩
  | .hbm, ⟨74, _⟩ => ⟨S_, .f32⟩
  | .hbm, ⟨75, _⟩ => ⟨S16384x1408, .f32⟩
  | .hbm, ⟨76, _⟩ => ⟨S16384x1408, .f32⟩
  | .hbm, ⟨77, _⟩ => ⟨S_, .f32⟩
  | .hbm, ⟨78, _⟩ => ⟨S16384x1408, .f32⟩
  | .hbm, ⟨79, _⟩ => ⟨S16384x1408, .f32⟩
  | .hbm, ⟨80, _⟩ => ⟨S_, .f32⟩
  | .hbm, ⟨81, _⟩ => ⟨S16384x1408, .f32⟩
  | .hbm, ⟨82, _⟩ => ⟨S16384x1408, .f32⟩
  | .hbm, ⟨83, _⟩ => ⟨S16384x1408, .f32⟩
  | .hbm, ⟨84, _⟩ => ⟨S16384x1408, .f32⟩
  | .hbm, ⟨85, _⟩ => ⟨S16384x1408, .f32⟩
  | .hbm, ⟨86, _⟩ => ⟨S16384x1408, .f32⟩
  | .hbm, ⟨87, _⟩ => ⟨S16384x1024, .f32⟩
  | .hbm, ⟨88, _⟩ => ⟨S16384x1408, .f32⟩
  | .hbm, ⟨89, _⟩ => ⟨S16384x1408, .f32⟩
  | .hbm, ⟨90, _⟩ => ⟨S16384x1408, .f32⟩
  | .hbm, ⟨91, _⟩ => ⟨S16384x1024, .f32⟩
  | .hbm, ⟨92, _⟩ => ⟨S16384x1408, .f32⟩
  | .hbm, ⟨93, _⟩ => ⟨S16384x1408, .f32⟩
  | .hbm, ⟨94, _⟩ => ⟨S16384x1408, .f32⟩
  | .hbm, ⟨95, _⟩ => ⟨S16384x1408, .f32⟩
  | .hbm, ⟨96, _⟩ => ⟨S16384x1024, .f32⟩
  | .hbm, ⟨97, _⟩ => ⟨S16384x1024, .f32⟩
  | .hbm, ⟨98, _⟩ => ⟨S1x16384x1024, .f32⟩
  | .hbm, ⟨99, _⟩ => ⟨S1x16384x1024, .f32⟩
  | .hbm, ⟨100, _⟩ => ⟨S2x16384x1024, .f32⟩
  | .hbm, ⟨101, _⟩ => ⟨S2x16384x1024, .bf16⟩
  | .hbm, ⟨102, _⟩ => ⟨S2816x1024, .f32⟩
  | .hbm, ⟨103, _⟩ => ⟨S4x704x1024, .f32⟩
  | .hbm, ⟨104, _⟩ => ⟨S2816x1024, .f32⟩
  | .hbm, ⟨105, _⟩ => ⟨S4x704x1024, .f32⟩
  | .hbm, ⟨106, _⟩ => ⟨S4x1408x1024, .f32⟩
  | .hbm, ⟨107, _⟩ => ⟨S4x1408x1024, .bf16⟩
  | .hbm, ⟨108, _⟩ => ⟨S4x704x1024, .f32⟩
  | .hbm, ⟨109, _⟩ => ⟨S4x704x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_v22_2 : Ref sig .tc := ⟨.hbm, 49, rfl⟩
abbrev main_call2_cst_1 : Ref sig .tc := ⟨.hbm, 50, rfl⟩
abbrev main_call2_v6 : Ref sig .tc := ⟨.hbm, 51, rfl⟩
abbrev main_call2_v7 : Ref sig .tc := ⟨.hbm, 52, rfl⟩
abbrev main_v22_1 : Ref sig .tc := ⟨.hbm, 53, rfl⟩
abbrev main_v22_0 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_call4_v0 : Ref sig .tc := ⟨.hbm, 72, rfl⟩
abbrev main_call4_v1 : Ref sig .tc := ⟨.hbm, 73, rfl⟩
abbrev main_call4_cst : Ref sig .tc := ⟨.hbm, 74, rfl⟩
abbrev main_call4_v2 : Ref sig .tc := ⟨.hbm, 75, rfl⟩
abbrev main_call4_v3 : Ref sig .tc := ⟨.hbm, 76, rfl⟩
abbrev main_call4_cst_0 : Ref sig .tc := ⟨.hbm, 77, rfl⟩
abbrev main_call4_v4 : Ref sig .tc := ⟨.hbm, 78, rfl⟩
abbrev main_v37_2 : Ref sig .tc := ⟨.hbm, 79, rfl⟩
abbrev main_call4_cst_1 : Ref sig .tc := ⟨.hbm, 80, rfl⟩
abbrev main_call4_v6 : Ref sig .tc := ⟨.hbm, 81, rfl⟩
abbrev main_call4_v7 : Ref sig .tc := ⟨.hbm, 82, rfl⟩
abbrev main_v37_1 : Ref sig .tc := ⟨.hbm, 83, rfl⟩
abbrev main_v37_0 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S_ : Shape := ⟨0, ![]⟩
abbrev S4x1024x1024 : Shape := ⟨3, ![4, 1024, 1024]⟩
abbrev S4x704x1024 : Shape := ⟨3, ![4, 704, 1024]⟩
abbrev S4x1728x1024 : Shape := ⟨3, ![4, 1728, 1024]⟩
abbrev S1x1024 : Shape := ⟨2, ![1, 1024]⟩
abbrev S4x32x512x704 : Shape := ⟨4, ![4, 32, 512, 704]⟩
abbrev S1x128 : Shape := ⟨2, ![1, 128]⟩
abbrev S16384x1 : Shape := ⟨2, ![16384, 1]⟩
abbrev S512x1024 : Shape := ⟨2, ![512, 1024]⟩
abbrev S512x1 : Shape := ⟨2, ![512, 1]⟩
abbrev S4x1024x704 : Shape := ⟨3, ![4, 1024, 704]⟩
abbrev S2x512x704 : Shape := ⟨3, ![2, 512, 704]⟩
abbrev S2x2 : Shape := ⟨2, ![2, 2]⟩
abbrev S3 : Shape := ⟨1, ![3]⟩
abbrev S1 : Shape := ⟨1, ![1]⟩
abbrev S512 : Shape := ⟨1, ![512]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩
abbrev S1x1 : Shape := ⟨2, ![1, 1]⟩
abbrev S1x1x512x704 : Shape := ⟨4, ![1, 1, 512, 704]⟩
abbrev S1x704x1024 : Shape := ⟨3, ![1, 704, 1024]⟩
abbrev S704x1024 : Shape := ⟨2, ![704, 1024]⟩

abbrev nBuf : Space → Nat
  | .hbm => 26
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2048x2816, .f32⟩
  | .hbm, ⟨8, _⟩ => ⟨S2048x4x704, .f32⟩
  | .hbm, ⟨9, _⟩ => ⟨S4x2048x704, .f32⟩
  | .hbm, ⟨10, _⟩ => ⟨S4x2048x704, .bf16⟩
  | .hbm, ⟨11, _⟩ => ⟨S_, .f32⟩
  | .hbm, ⟨12, _⟩ => ⟨S4x1024x1024, .f32⟩
  | .hbm, ⟨13, _⟩ => ⟨S4x704x1024, .f32⟩
  | .hbm, ⟨14, _⟩ => ⟨S4x1728x1024, .f32⟩
  | .hbm, ⟨15, _⟩ => ⟨S4x1728x1024, .bf16⟩
  | .hbm, ⟨16, _⟩ => ⟨S1x1024, .f32⟩
  | .hbm, ⟨17, _⟩ => ⟨S1x1024, .f32⟩
  | .hbm, ⟨18, _⟩ => ⟨S16384x1024, .bf16⟩
  | .hbm, ⟨19, _⟩ => ⟨S4x32x512x704, .bf16⟩
  | .hbm, ⟨20, _⟩ => ⟨S4x32x512x704, .bf16⟩
  | .hbm, ⟨21, _⟩ => ⟨S16384x1024, .bf16⟩
  | .hbm, ⟨22, _⟩ => ⟨S16384x1024, .f32⟩
  | .hbm, ⟨23, _⟩ => ⟨S1x128, .f32⟩
  | .hbm, ⟨24, _⟩ => ⟨S1x1024, .f32⟩
  | .hbm, ⟨25, _⟩ => ⟨S16384x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x128, .f32⟩
  | .local _ .vmem, ⟨13, _⟩ => ⟨S1x1024, .f32⟩
  | .local _ .vmem, ⟨14, _⟩ => ⟨S512x1, .f32⟩
  | .local _ .vmem, ⟨15, _⟩ => ⟨S512x1, .f32⟩
  | .local _ .vmem, ⟨16, _⟩ => ⟨S4x1024x704, .bf16⟩
  | .local _ .vmem, ⟨17, _⟩ => ⟨S4x1024x704, .bf16⟩
  | .local _ .vmem, ⟨18, _⟩ => ⟨S4x704x1024, .bf16⟩
  | .local _ .vmem, ⟨19, _⟩ => ⟨S2x512x704, .bf16⟩
  | .local _ .vmem, ⟨20, _⟩ => ⟨S2x512x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_v10_6 : Ref sig .tc := ⟨.hbm, 24, rfl⟩
abbrev main_v10_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def k0_off1 (i : grid0.Coords) : Fin 4 → Nat :=
  let c0_i32_26 : BitVec 32 := 0#32
  let arg0 : BitVec 32 := BitVec.ofNat 32 (i 0).val
  let c0_i32_29 : BitVec 32 := 0#32
  let c0_i32_30 : BitVec 32 := 0#32
  ![0, arg0.toNat, 0, 0]
def k0_off2 (i : grid0.Coords) : Fin 4 → Nat :=
  let c1_i32_61 : BitVec 32 := 1#32
  let arg0 : BitVec 32 := BitVec.ofNat 32 (i 0).val
  let c0_i32_64 : BitVec 32 := 0#32
  let c0_i32_65 : BitVec 32 := 0#32
  ![1, arg0.toNat, 0, 0]
def k0_off3 (i : grid0.Coords) : Fin 4 → Nat :=
  let c2_i32 : BitVec 32 := 2#32
  let arg0 : BitVec 32 := BitVec.ofNat 32 (i 0).val
  let c0_i32_115 : BitVec 32 := 0#32
  let c0_i32_116 : BitVec 32 := 0#32
  ![2, arg0.toNat, 0, 0]
def k0_off4 (i : grid0.Coords) : Fin 4 → Nat :=
  let c3_i32 : BitVec 32 := 3#32
  let arg0 : BitVec 32 := BitVec.ofNat 32 (i 0).val
  let c0_i32_166 : BitVec 32 := 0#32
  let c0_i32_167 : BitVec 32 := 0#32
  ![3, arg0.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S_, .f32⟩
  | .hbm, ⟨65, _⟩ => ⟨S16384, .f32⟩
  | .hbm, ⟨66, _⟩ => ⟨S16384, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S16384, .f32⟩
  | .hbm, ⟨75, _⟩ => ⟨S_, .f32⟩
  | .hbm, ⟨76, _⟩ => ⟨S16384, .f32⟩
  | .hbm, ⟨77, _⟩ => ⟨S16384, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S1024, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S16384x1024, .f32⟩
  | .hbm, ⟨93, _⟩ => ⟨S16384x1024, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S_, .f32⟩
  | .hbm, ⟨99, _⟩ => ⟨S16384, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x1024, .f32⟩
  | .hbm, ⟨105, _⟩ => ⟨S16384x1024, .bf16⟩
  | .hbm, ⟨106, _⟩ => ⟨S16384x1024, .bf16⟩
  | .hbm, ⟨107, _⟩ => ⟨S1x128, .f32⟩
  | .hbm, ⟨108, _⟩ => ⟨S1x1024, .f32⟩
  | .hbm, ⟨109, _⟩ => ⟨S16384x1024, .f32⟩
  | .hbm, ⟨110, _⟩ => ⟨S_, .f32⟩
  | .hbm, ⟨111, _⟩ => ⟨S16384, .f32⟩
  | .hbm, ⟨112, _⟩ => ⟨S16384x1, .f32⟩
  | .hbm, ⟨113, _⟩ => ⟨S_, .f32⟩
  | .hbm, ⟨114, _⟩ => ⟨S16384x1, .f32⟩
  | .hbm, ⟨115, _⟩ => ⟨S16384x1, .f32⟩
  | .hbm, ⟨116, _⟩ => ⟨S_, .f32⟩
  | .hbm, ⟨117, _⟩ => ⟨S16384x1, .f32⟩
  | .hbm, ⟨118, _⟩ => ⟨S16384x1, .f32⟩
  | .hbm, ⟨119, _⟩ => ⟨S16384x1, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_cst_11 : Ref sig .tc := ⟨.hbm, 71, rfl⟩
abbrev main_cst_12 : Ref sig .tc := ⟨.hbm, 72, rfl⟩
abbrev main_v44 : Ref sig .tc := ⟨.hbm, 73, rfl⟩
abbrev main_v45 : Ref sig .tc := ⟨.hbm, 74, rfl⟩
abbrev main_cst_13 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_14 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_15 : Ref sig .tc := ⟨.hbm, 86, rfl⟩
abbrev main_v55 : Ref sig .tc := ⟨.hbm, 87, rfl⟩
abbrev main_v56 : Ref sig .tc := ⟨.hbm, 88, rfl⟩
abbrev main_cst_16 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_17 : Ref sig .tc := ⟨.hbm, 95, rfl⟩
abbrev main_v62 : Ref sig .tc := ⟨.hbm, 96, rfl⟩
abbrev main_v63 : Ref sig .tc := ⟨.hbm, 97, rfl⟩
abbrev main_cst_18 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_19 : Ref sig .tc := ⟨.hbm, 110, rfl⟩
abbrev main_v75 : Ref sig .tc := ⟨.hbm, 111, rfl⟩
abbrev main_v76 : Ref sig .tc := ⟨.hbm, 112, rfl⟩
abbrev main_cst_20 : Ref sig .tc := ⟨.hbm, 113, rfl⟩
abbrev main_v77 : Ref sig .tc := ⟨.hbm, 114, rfl⟩
abbrev main_v78 : Ref sig .tc := ⟨.hbm, 115, rfl⟩
abbrev main_cst_21 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩

abbrev nD : Nat := 1
abbrev τ : Topo := Topo.v7x

variable {F : FTy → Type} [FloatOps F]
-- ==== Proof.Spec.lean ====
/-
The mathematics both programs compute, over extended reals: the gate's logistic function, the two derivatives of the
gated product, and the sums of the four gradients. Nothing here mentions a program.
-/
module

public import Idealize.ShloMosaic.Lib.IdealHost

@[expose] public section

noncomputable section

namespace Cert.Ffn

open Idealize.ShloMosaic

/-! ## One element of the gate -/

/-- The logistic function as the kernel writes it: half the hyperbolic tangent of half the argument, plus a half. -/
def sig (x : EReal) : EReal :=
  Ideal.ofBits .f32 0x3F000000#32 * Ideal.tanh (Ideal.ofBits .f32 0x3F000000#32 * x) + Ideal.ofBits .f32 0x3F000000#32

/-- The derivative towards the gate's input `g`, given the other factor `u` and the derivative `a` of the product. -/
def dgateAt (g u a : EReal) : EReal := a * u * (sig g * (1 + g * (1 - sig g)))

/-- The derivative towards the other factor. -/
def dupAt (g a : EReal) : EReal := a * (g * sig g)

/-- The gated product itself. -/
def actAt (g u : EReal) : EReal := g * sig g * u

/-- The literal of one half is the number one half. -/
theorem half_eq : Ideal.ofBits .f32 0x3F000000#32 = (((1 : ℝ) / 2 : ℝ) : EReal) := by
  simp [Ideal.ofBits, Ideal.ieee, -EReal.coe_mul]
  norm_num

/-- On the reals the kernel's form of the logistic function is the usual one. -/
theorem tanh_logistic (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; ring_nf
  have i : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, e]
  generalize Real.exp (1 / 2 * r) = x at i p
  generalize Real.exp (-(1 / 2 * r)) = y at i q
  have hy : y = 1 / x := by field_simp; linarith
  subst hy
  field_simp
  ring

/-- The kernel's form of the logistic function is the library's at every extended real. -/
theorem sig_eq (x : EReal) : sig x = Ideal.logistic x := by
  unfold sig
  rw [half_eq]
  have hp : (0 : ℝ) < 1 / 2 := by norm_num
  induction x with
  | bot =>
    rw [EReal.coe_mul_bot_of_pos hp, Ideal.logistic_bot]
    show (((1 : ℝ) / 2 : ℝ) : EReal) * (-1) + _ = 0
    rw [show (-1 : EReal) = ((-1 : ℝ) : EReal) by norm_num, ← EReal.coe_mul, ← EReal.coe_add]
    norm_num
  | top =>
    rw [EReal.coe_mul_top_of_pos hp, Ideal.logistic_top]
    show (((1 : ℝ) / 2 : ℝ) : EReal) * 1 + _ = 1
    rw [mul_one, ← EReal.coe_add]
    norm_num
  | coe r =>
    rw [← EReal.coe_mul, Ideal.logistic_coe, ← tanh_logistic]
    show (((1 : ℝ) / 2 : ℝ) : EReal) * ((Real.tanh (1 / 2 * r) : ℝ) : EReal) + _ = _
    rw [← EReal.coe_mul, ← EReal.coe_add]

/-- For a real factor `c` the kernel's derivative of the gate is the sum that the product rule gives, at every extended
real `g`: where `g` is infinite, both are `c` times the slope of the gate there. -/
theorem gate_rule (c : ℝ) (g : EReal) :
    (c : EReal) * (sig g * (1 + g * (1 - sig g)))
      = (c : EReal) * Ideal.logistic g + g * c * (Ideal.logistic g * (1 - Ideal.logistic g)) := by
  rw [sig_eq]
  have one : (1 : EReal) - 1 = 0 := by
    rw [← EReal.coe_one, ← EReal.coe_sub, sub_self, EReal.coe_zero]
  induction g with
  | bot => simp
  | top => simp [one]
  | coe r =>
    rw [Ideal.logistic_coe, ← EReal.coe_one]
    norm_cast
    push_cast
    norm_cast
    ring

/-! ## The sums -/

/-- A column of the hidden layer by its block and its place in the block. -/
abbrev col (n : Fin 4) (f : Fin 704) : Fin 2816 := ⟨n.val * 704 + f.val, by omega⟩

/-- A row of tokens by its tile and its place in the tile. -/
abbrev row (i : Fin 32) (s : Fin 512) : Fin 16384 := ⟨i.val * 512 + s.val, by omega⟩

section

variable (h : Fin 16384 → Fin 1024 → EReal) (wg wu : Fin 1024 → Fin 2816 → EReal) (wd : Fin 2816 → Fin 1024 → EReal)
  (g : Fin 16384 → Fin 1024 → EReal)

/-- A product of the tokens with a weight matrix: the gate's input, or the other factor. -/
def proj (w : Fin 1024 → Fin 2816 → EReal) (s : Fin 16384) (f : Fin 2816) : EReal := ∑ d : Fin 1024, h s d * w d f

/-- The derivative towards the gated product. -/
def dact (s : Fin 16384) (f : Fin 2816) : EReal := ∑ d : Fin 1024, g s d * wd f d

/-- The derivative towards the gate's input. -/
def dgate (s : Fin 16384) (f : Fin 2816) : EReal := dgateAt (proj h wg s f) (proj h wu s f) (dact wd g s f)

/-- The derivative towards the other factor. -/
def dup (s : Fin 16384) (f : Fin 2816) : EReal := dupAt (proj h wg s f) (dact wd g s f)

/-- The gradient of the gate's weights. -/
def dWg (f : Fin 2816) (d : Fin 1024) : EReal := ∑ s : Fin 16384, dgate h wg wu wd g s f * h s d

/-- The gradient of the other factor's weights. -/
def dWu (f : Fin 2816) (d : Fin 1024) : EReal := ∑ s : Fin 16384, dup h wg wd g s f * h s d

/-- The gradient of the last product's weights. -/
def dWd (f : Fin 2816) (d : Fin 1024) : EReal := ∑ s : Fin 16384, actAt (proj h wg s f) (proj h wu s f) * g s d

/-- What half `p` of the hidden columns gives to the gradient of the tokens: its two blocks, each through both factors. -/
def dTok (p : Fin 2) (s : Fin 16384) (d : Fin 1024) : EReal :=
  ∑ f : Fin 704, dgate h wg wu wd g s (col ⟨2 * p.val, by omega⟩ f) * wg d (col ⟨2 * p.val, by omega⟩ f)
    + ∑ f : Fin 704, dup h wg wd g s (col ⟨2 * p.val, by omega⟩ f) * wu d (col ⟨2 * p.val, by omega⟩ f)
    + ∑ f : Fin 704, dgate h wg wu wd g s (col ⟨2 * p.val + 1, by omega⟩ f) * wg d (col ⟨2 * p.val + 1, by omega⟩ f)
    + ∑ f : Fin 704, dup h wg wd g s (col ⟨2 * p.val + 1, by omega⟩ f) * wu d (col ⟨2 * p.val + 1, by omega⟩ f)

/-- The gradients of the two gate matrices laid out by blocks of columns: a block's gate rows, then its other factor's. -/
def dWgu (n : Fin 4) (r : Fin 1408) (d : Fin 1024) : EReal :=
  if hr : r.val < 704 then dWg h wg wu wd g (col n ⟨r.val, hr⟩) d else dWu h wg wd g (col n ⟨r.val - 704, by omega⟩) d

theorem dWgu_up (n : Fin 4) (r : Fin 704) (d : Fin 1024) : dWgu h wg wu wd g n ⟨r.val, by omega⟩ d = dWg h wg wu wd g (col n r) d :=
  dif_pos r.isLt

theorem dWgu_low (n : Fin 4) (r : Fin 704) (d : Fin 1024) : dWgu h wg wu wd g n ⟨704 + r.val, by omega⟩ d = dWu h wg wd g (col n r) d := by
  rw [dWgu, dif_neg (show ¬704 + r.val < 704 by omega)]
  exact congrArg (fun k => dWu h wg wd g (col n k) d) (Fin.ext (Nat.add_sub_cancel_left 704 r.val))

/-- A row of the laid out gradients is a gate row or one of the other factor's. -/
theorem row_cases {P : Fin 1408 → Prop} (up : ∀ r : Fin 704, P ⟨r.val, by omega⟩) (low : ∀ r : Fin 704, P ⟨704 + r.val, by omega⟩) (r : Fin 1408) : P r := by
  by_cases hr : r.val < 704
  · exact up ⟨r.val, hr⟩
  · have := low ⟨r.val - 704, by omega⟩
    rwa [show (⟨704 + (r.val - 704), by omega⟩ : Fin 1408) = r from Fin.ext (by show 704 + (r.val - 704) = r.val; omega)] at this

end

/-- A sum over all the tokens is the sum of the tiles' sums. -/
theorem sum_tiles (M : Fin 16384 → EReal) : ∑ s, M s = ∑ i : Fin 32, ∑ k : Fin 512, M (row i k) := by
  rw [← Fintype.sum_prod_type', ← Equiv.sum_comp (finProdFinEquiv (m := 32) (n := 512)) fun s : Fin (32 * 512) => M s]
  refine Finset.sum_congr rfl fun p _ => congrArg M (Fin.ext ?_)
  simp [finProdFinEquiv, row, add_comm, mul_comm]

/-- The sum of the first `n` tiles' shares. -/
def upTo (M : Fin 32 → EReal) (n : ℕ) : EReal := ∑ i ∈ Finset.range n, if h : i < 32 then M ⟨i, h⟩ else 0

theorem upTo_one (M : Fin 32 → EReal) : upTo M 1 = M 0 := by
  rw [upTo, Finset.sum_range_one]
  rfl

theorem upTo_succ (M : Fin 32 → EReal) (i : Fin 32) : upTo M (i.val + 1) = upTo M i.val + M i := by
  rw [upTo, Finset.sum_range_succ, dif_pos i.isLt]
  rfl

theorem upTo_all (M : Fin 32 → EReal) : upTo M 32 = ∑ i, M i := by
  rw [upTo, Finset.sum_range]
  exact Finset.sum_congr rfl fun i _ => dif_pos i.isLt

/-- A sum over half of the hidden columns is the sum over its two blocks. -/
theorem sum_half (M : Fin 1408 → EReal) :
    ∑ k, M k = ∑ f : Fin 704, M ⟨f.val, by omega⟩ + ∑ f : Fin 704, M ⟨704 + f.val, by omega⟩ := by
  rw [show (∑ k, M k) = ∑ k : Fin (704 + 704), M k from rfl, Fin.sum_univ_add]
  rfl

/-! ## Real values -/

/-- The extended real is a real number. -/
def IsReal (x : EReal) : Prop := ∃ r : ℝ, x = r

theorem IsReal.mul {x y : EReal} (hx : IsReal x) (hy : IsReal y) : IsReal (x * y) := by
  obtain ⟨r, rfl⟩ := hx
  obtain ⟨q, rfl⟩ := hy
  exact ⟨r * q, (EReal.coe_mul r q).symm⟩

theorem IsReal.sum {ι : Type*} (s : Finset ι) (f : ι → EReal) (hf : ∀ k, IsReal (f k)) : IsReal (∑ k ∈ s, f k) := by
  classical
  induction s using Finset.induction_on with
  | empty => exact ⟨0, by simp⟩
  | insert a s ha ih =>
    obtain ⟨q, hq⟩ := ih
    obtain ⟨r, hr⟩ := hf a
    exact ⟨r + q, by rw [Finset.sum_insert ha, hq, hr, EReal.coe_add]⟩

/-- A number whose absolute value is below infinity is real. -/
theorem isReal_of_abs (x : EReal) (hx : max x (-x) < ⊤) : IsReal x := by
  induction x with
  | bot => exact absurd hx (by simp)
  | top => exact absurd hx (by simp)
  | coe r => exact ⟨r, rfl⟩

end Cert.Ffn
-- ==== Proof.FwdSpec.lean ====
/-
The mathematics both forward programs compute, over extended reals: the root-mean-square norm, the feed-forward block of a
row of tokens, the squared distance to the target, and the loss with its two gradients. Nothing here mentions a program.
-/
module

public import proofs.«01_k».proof.Proof.Spec

@[expose] public section

noncomputable section

namespace Cert.Fwd

open Idealize.ShloMosaic Cert.Ffn

/-! ## One row -/

/-- The scale of the root-mean-square norm. -/
def scale (v : Fin 1024 → EReal) : EReal :=
  Ideal.rsqrt (Ideal.div (∑ d : Fin 1024, v d * v d) (Ideal.ofBits .f32 0x44800000#32) + Ideal.ofBits .f32 0x358637BD#32)

/-- The normalised row, times the gain. -/
def hid (x g : Fin 1024 → EReal) (d : Fin 1024) : EReal := x d * scale x * g d

/-- The normalised row. -/
def nrm (o : Fin 1024 → EReal) (d : Fin 1024) : EReal := o d * scale o

/-- A product of a row with a weight matrix. -/
def prj (h : Fin 1024 → EReal) (w : Fin 1024 → Fin 2816 → EReal) (f : Fin 2816) : EReal := ∑ d : Fin 1024, h d * w d f

/-- The feed-forward block. -/
def ffn (h : Fin 1024 → EReal) (wg wu : Fin 1024 → Fin 2816 → EReal) (wd : Fin 2816 → Fin 1024 → EReal) (d : Fin 1024) : EReal :=
  ∑ f : Fin 2816, actAt (prj h wg f) (prj h wu f) * wd f d

/-- How far the sub-layer's output is from the target. -/
def diff (x o g t : Fin 1024 → EReal) (d : Fin 1024) : EReal := x d + nrm o d * g d - t d

/-- The loss's gradient at the sub-layer's output. -/
def slope (x o g t : Fin 1024 → EReal) (d : Fin 1024) : EReal := diff x o g t d * Ideal.ofBits .f32 0x3A800000#32

/-- A sum over the hidden columns is the sum over the four blocks. -/
theorem sum_cols (M : Fin 2816 → EReal) :
    ∑ k, M k = ∑ f : Fin 704, M (col 0 f) + ∑ f : Fin 704, M (col 1 f) + ∑ f : Fin 704, M (col 2 f) + ∑ f : Fin 704, M (col 3 f) := by
  have h : ∑ k, M k = ∑ n : Fin 4, ∑ f : Fin 704, M (col n f) := by
    rw [← Fintype.sum_prod_type', ← Equiv.sum_comp (finProdFinEquiv (m := 4) (n := 704)) fun s : Fin (4 * 704) => M s]
    refine Finset.sum_congr rfl fun p _ => congrArg M (Fin.ext ?_)
    simp [finProdFinEquiv, col, add_comm, mul_comm]
  rw [h, Fin.sum_univ_four]

/-- The feed-forward block, one block of hidden columns after the other. -/
theorem ffn_blocks (h : Fin 1024 → EReal) (wg wu : Fin 1024 → Fin 2816 → EReal) (wd : Fin 2816 → Fin 1024 → EReal) (d : Fin 1024) :
    ffn h wg wu wd d
      = ∑ f : Fin 704, actAt (∑ d, h d * wg d (col 0 f)) (∑ d, h d * wu d (col 0 f)) * wd (col 0 f) d
        + ∑ f : Fin 704, actAt (∑ d, h d * wg d (col 1 f)) (∑ d, h d * wu d (col 1 f)) * wd (col 1 f) d
        + ∑ f : Fin 704, actAt (∑ d, h d * wg d (col 2 f)) (∑ d, h d * wu d (col 2 f)) * wd (col 2 f) d
        + ∑ f : Fin 704, actAt (∑ d, h d * wg d (col 3 f)) (∑ d, h d * wu d (col 3 f)) * wd (col 3 f) d :=
  sum_cols fun f => actAt (prj h wg f) (prj h wu f) * wd f d

/-! ## All the tokens -/

section

variable (x t : Fin 16384 → Fin 1024 → EReal) (g1 g2 : Fin 1024 → EReal) (wg wu : Fin 1024 → Fin 2816 → EReal) (wd : Fin 2816 → Fin 1024 → EReal)

/-- The feed-forward block's output. -/
def out (s : Fin 16384) : Fin 1024 → EReal := ffn (hid (x s) g1) wg wu wd

/-- How far the sub-layer's output is from the target, for all the tokens. -/
def far (s : Fin 16384) : Fin 1024 → EReal := diff (x s) (out x g1 wg wu wd s) g2 (t s)

/-- The loss's gradient at the sub-layer's output, for all the tokens. -/
def dy (s : Fin 16384) : Fin 1024 → EReal := slope (x s) (out x g1 wg wu wd s) g2 (t s)

/-- A tile's share of the loss. -/
def lossOf (i : Fin 32) : EReal :=
  (∑ s : Fin 512, ∑ d : Fin 1024, far x t g1 g2 wg wu wd (row i s) d * far x t g1 g2 wg wu wd (row i s) d) * Ideal.ofBits .f32 0x3A000000#32

/-- The loss. -/
def loss : EReal := ∑ i : Fin 32, lossOf x t g1 g2 wg wu wd i

/-- A tile's share of the gradient of the second gain. -/
def gainOf (d : Fin 1024) (i : Fin 32) : EReal :=
  ∑ s : Fin 512, dy x t g1 g2 wg wu wd (row i s) d * nrm (out x g1 wg wu wd (row i s)) d

/-- The gradient of the second gain. -/
def gain (d : Fin 1024) : EReal := ∑ s : Fin 16384, dy x t g1 g2 wg wu wd s d * nrm (out x g1 wg wu wd s) d

theorem gain_tiles (d : Fin 1024) : gain x t g1 g2 wg wu wd d = ∑ i : Fin 32, gainOf x t g1 g2 wg wu wd d i :=
  sum_tiles fun s => dy x t g1 g2 wg wu wd s d * nrm (out x g1 wg wu wd s) d

end

/-! ## The constants -/

theorem width_eq : Ideal.ofBits .f32 0x44800000#32 = ((1024 : ℝ) : EReal) := by
  simp [Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

theorem perWidth_eq : Ideal.ofBits .f32 0x3A800000#32 = ((1 / 1024 : ℝ) : EReal) := by
  simp [Ideal.ofBits, Ideal.ieee, -EReal.coe_mul]
  norm_num

theorem halfPerWidth_eq : Ideal.ofBits .f32 0x3A000000#32 = ((1 / 2048 : ℝ) : EReal) := by
  simp [Ideal.ofBits, Ideal.ieee, -EReal.coe_mul]
  norm_num

theorem one_eq : Ideal.ofBits .f32 0x3F800000#32 = ((1 : ℝ) : EReal) := by
  simp [Ideal.ofBits, Ideal.ieee, -EReal.coe_mul]
  norm_num

/-- A nonnegative real factor goes into a sum, whatever the terms. -/
theorem mul_sum {ι : Type*} (c : ℝ) (hc : 0 ≤ c) (s : Finset ι) (f : ι → EReal) : (c : EReal) * ∑ k ∈ s, f k = ∑ k ∈ s, (c : EReal) * f k := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

end Cert.Fwd
-- ==== Proof.FwdHost.lean ====
/-
The arrays that the host prepares for the forward launch, and the part of each that a point finds, read one element at a
time over extended reals: the tokens and the target by tiles, the two gains, and the weights by blocks of hidden columns.
-/
module

public import proofs.«01_k».proof.Proof.Gen.Kernel2Ideal.Frame.Runs
public import proofs.«01_k».proof.Proof.FwdSpec
public import Idealize.ShloMosaic.Lib.StableHlo.RunRead
public import Idealize.ShloMosaic.Lib.Pipeline.ValueKit
public import Idealize.ShloMosaic.Lib.ValueIdx
public import Idealize.ShloMosaic.Lib.IdealHost

@[expose] public section

set_option maxRecDepth 16384

noncomputable section

namespace Cert.Kernel2Ideal.Host

open Cert.Kernel2Ideal Cert.Kernel2Ideal.Gen Idealize.ShloMosaic Idealize.ShloMosaic.TcCoe Idealize.SL.Sem Cert.Ffn Cert.Fwd

variable (m : (ℓ : Loc nD τ sig) → Buf (Elt Ideal) ℓ) (c : Dev nD)

/-- The tokens. -/
def X (s : Fin 16384) (d : Fin 1024) : EReal := m ((c : Thread nD τ).loc main_arg0) (ix2 s d)

/-- The target. -/
def T (s : Fin 16384) (d : Fin 1024) : EReal := m ((c : Thread nD τ).loc main_arg1) (ix2 s d)

/-- The first gain. -/
def G1 (d : Fin 1024) : EReal := m ((c : Thread nD τ).loc main_arg2) (ix1 d)

/-- The second gain. -/
def G2 (d : Fin 1024) : EReal := m ((c : Thread nD τ).loc main_arg3) (ix1 d)

/-- The gate's weights. -/
def Wg (d : Fin 1024) (f : Fin 2816) : EReal := m ((c : Thread nD τ).loc main_arg4) (ix2 d f)

/-- The other factor's weights. -/
def Wu (d : Fin 1024) (f : Fin 2816) : EReal := m ((c : Thread nD τ).loc main_arg5) (ix2 d f)

/-- The last product's weights. -/
def Wd (f : Fin 2816) (d : Fin 1024) : EReal := m ((c : Thread nD τ).loc main_arg6) (ix2 f d)

/-! ## What the launch finds -/

theorem tokens (s : Fin 16384) (d : Fin 1024) : V m c main_arg0 (ix2 s d) = X m c s d := by
  unfold V
  after_reads_simp
  rfl

theorem target (s : Fin 16384) (d : Fin 1024) : V m c main_arg1 (ix2 s d) = T m c s d := by
  unfold V
  after_reads_simp
  rfl

theorem firstGain (d : Fin 1024) : V m c main_v8 (ix2 (0 : Fin 1) d) = G1 m c d := by
  unfold V
  after_reads_simp
  pointwise
  rfl

theorem secondGain (d : Fin 1024) : V m c main_v9 (ix2 (0 : Fin 1) d) = G2 m c d := by
  unfold V
  after_reads_simp
  pointwise
  rfl

/-- The gate's weights are in the upper half of the first weight array. -/
theorem gateWeights (n : Fin 4) (d : Fin 1024) (f : Fin 704) :
    V m c main_v3 (ix3 n (⟨d.val, by omega⟩ : Fin 2048) f) = Wg m c d (col n f) := by
  unfold V
  after_reads_simp
  pointwise
  after_reads_simp
  rfl

/-- The other factor's weights are in its lower half. -/
theorem factorWeights (n : Fin 4) (d : Fin 1024) (f : Fin 704) :
    V m c main_v3 (ix3 n (⟨1024 + d.val, by omega⟩ : Fin 2048) f) = Wu m c d (col n f) := by
  unfold V
  after_reads_simp
  pointwise
  after_reads_simp
  rfl

/-- The last product's weights are below the first 1024 rows of the second weight array. -/
theorem lastWeights (n : Fin 4) (f : Fin 704) (d : Fin 1024) :
    V m c main_v7 (ix3 n (⟨1024 + f.val, by omega⟩ : Fin 1728) d) = Wd m c (col n f) d := by
  unfold V
  after_reads_simp
  pointwise
  after_reads_simp
  pointwise
  rfl

/-! ## What a point finds -/

/-- The tile of tokens of a point. -/
def tile (t : Fin cfg0.N) : Fin 32 := ⟨t.val, lt_of_lt_of_eq t.isLt (show cfg0.N = 32 from N_0)⟩

/-- The windows' blocks of a point, decided over the 32 points. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_6.index t = ![t.val, 0] ∧ win0_7.index t = ![0, 0] ∧ win0_8.index t = ![0, 0] ∧ win0_9.index t = ![t.val, 0] :=
  (by decide +kernel : ∀ t : Fin grid0.N, win0_0.index t = ![t.val, 0] ∧ win0_1.index t = ![t.val, 0] ∧ win0_2.index t = ![0, 0] ∧ win0_3.index t = ![0, 0]
    ∧ win0_4.index t = ![t.val, 0] ∧ win0_6.index t = ![t.val, 0] ∧ win0_7.index t = ![0, 0] ∧ win0_8.index t = ![0, 0] ∧ win0_9.index t = ![t.val, 0])

theorem blk0 (t : Fin cfg0.N) (s : Fin 512) (d : Fin 1024) : iblk m c 0 t (ix2 s d) = X m c (row (tile t) s) d := by
  rw [← tokens]
  blk_ext [iblk, (idx t).1, tile]

theorem blk1 (t : Fin cfg0.N) (s : Fin 512) (d : Fin 1024) : iblk m c 1 t (ix2 s d) = T m c (row (tile t) s) d := by
  rw [← target]
  blk_ext [iblk, (idx t).2.1, tile]

theorem blk2 (t : Fin cfg0.N) (d : Fin 1024) : iblk m c 2 t (ix2 (0 : Fin 1) d) = G1 m c d := by
  rw [← firstGain]
  blk_ext [iblk, (idx t).2.2.1]

theorem blk3 (t : Fin cfg0.N) (d : Fin 1024) : iblk m c 3 t (ix2 (0 : Fin 1) d) = G2 m c d := by
  rw [← secondGain]
  blk_ext [iblk, (idx t).2.2.2.1]

end Cert.Kernel2Ideal.Host
-- ==== Proof.FwdNorm.lean ====
/-
The gradient through the root-mean-square norm of a row, in two forms: the kernel's, from the normalised row and its scale, and
the derivative of each factor in turn. They are equal at every row and every incoming gradient, infinite ones too.
-/
module

public import proofs.«01_k».proof.Proof.FwdSpec

@[expose] public section

noncomputable section

namespace Cert.Fwd

open Idealize.ShloMosaic Cert.Ffn

/-- The mean of the squares, moved away from zero. -/
def meanSq (o : Fin 1024 → EReal) : EReal :=
  Ideal.div (∑ d : Fin 1024, o d * o d) (Ideal.ofBits .f32 0x44800000#32) + Ideal.ofBits .f32 0x358637BD#32

/-- The gradient through the norm, where `w` is that at the normalised row, from the normalised row and its scale. -/
def through (o w : Fin 1024 → EReal) (d : Fin 1024) : EReal :=
  scale o * (w d - nrm o d * Ideal.div (∑ k : Fin 1024, w k * nrm o k) (Ideal.ofBits .f32 0x44800000#32))

/-- The part of the gradient that goes through the scale, for one factor of the square and without the other. -/
def viaScale (o w : Fin 1024 → EReal) : EReal :=
  Ideal.div ((∑ k : Fin 1024, o k * w k) * (Ideal.ofBits .f32 0xBF000000#32 * Ideal.div (scale o) (meanSq o))) (Ideal.ofBits .f32 0x44800000#32)

theorem eps_eq : Ideal.ofBits .f32 0x358637BD#32 = ((8796093 / 2 ^ 43 : ℝ) : EReal) := by
  simp [Ideal.ofBits, Ideal.ieee, -EReal.coe_mul]
  norm_num

theorem minusHalf_eq : Ideal.ofBits .f32 0xBF000000#32 = ((-(1 / 2) : ℝ) : EReal) := by
  simp [Ideal.ofBits, Ideal.ieee, -EReal.coe_mul]
  norm_num

/-- A quotient by a real number that is not zero. -/
theorem div_real (x : EReal) (r : ℝ) (hr : r ≠ 0) : Ideal.div x (r : EReal) = x * ((r⁻¹ : ℝ) : EReal) := by
  rw [Ideal.div, if_neg (by exact_mod_cast hr), EReal.coe_inv]

/-- A sum of real numbers is real. -/
theorem sum_real {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem sq_nonneg' (x : EReal) : 0 ≤ x * x := by
  induction x with
  | bot => simp
  | top => simp
  | coe r => exact_mod_cast mul_self_nonneg r

theorem sq_real (x : EReal) (h : x * x ≠ ⊤) : ∃ r : ℝ, x = r := by
  induction x with
  | bot => simp at h
  | top => simp at h
  | coe r => exact ⟨r, rfl⟩

/-- Either the mean of the squares is infinite, or it is a positive real number and the whole row is real. -/
theorem meanSq_cases (o : Fin 1024 → EReal) :
    meanSq o = ⊤ ∨ ∃ r : ℝ, 0 < r ∧ meanSq o = r ∧ ∃ a : Fin 1024 → ℝ, o = fun d => (a d : EReal) := by
  have hn : ∀ d ∈ (Finset.univ : Finset (Fin 1024)), 0 ≤ o d * o d := fun d _ => sq_nonneg' (o d)
  by_cases h : ∑ d, o d * o d = ⊤
  · left
    rw [meanSq, h, width_eq, div_real _ _ (by norm_num), eps_eq, EReal.top_mul_coe_of_pos (by norm_num), EReal.top_add_coe]
  · right
    have ha : ∀ d, ∃ r : ℝ, o d = r := fun d => sq_real (o d) fun e => h (by
      have := Finset.single_le_sum hn (Finset.mem_univ d)
      rw [e] at this
      exact top_le_iff.mp this)
    choose a ha using ha
    have hs : ∑ d, o d * o d = ((∑ d, a d * a d : ℝ) : EReal) := by
      rw [sum_real]
      exact Finset.sum_congr rfl fun d _ => by rw [ha d, EReal.coe_mul]
    have h0 : 0 ≤ ∑ d, a d * a d := Finset.sum_nonneg fun d _ => mul_self_nonneg (a d)
    refine ⟨(∑ d, a d * a d) * (1024 : ℝ)⁻¹ + 8796093 / 2 ^ 43, by positivity, ?_, a, funext ha⟩
    rw [meanSq, hs, width_eq, div_real _ _ (by norm_num), eps_eq, ← EReal.coe_mul, ← EReal.coe_add]

/-- A sum of a term with itself. -/
theorem twice (t : EReal) : t + t = ((2 : ℝ) : EReal) * t := by
  have h := EReal.nsmul_eq_mul 2 t
  rw [two_nsmul] at h
  rw [h]
  congr 1

/-- The two forms of the gradient through the norm. -/
theorem through_eq (o w : Fin 1024 → EReal) (d : Fin 1024) :
    w d * scale o + o d * viaScale o w + viaScale o w * o d = through o w d := by
  have hsc : scale o = Ideal.rsqrt (meanSq o) := rfl
  rcases meanSq_cases o with h | ⟨r, hr, h, a, rfl⟩
  · have hz : scale o = 0 := by rw [hsc, h]; rfl
    have hv : viaScale o w = 0 := by
      rw [viaScale, hz, h, width_eq, div_real _ _ (by norm_num), Ideal.div, if_neg (by simp)]
      simp
    rw [hv, through, hz]
    simp
  · obtain ⟨σ, hσ, hs, hq⟩ : ∃ σ : ℝ, 0 < σ ∧ scale (fun d => (a d : EReal)) = σ ∧ σ * σ = r⁻¹ := by
      refine ⟨(√r)⁻¹, inv_pos.mpr (Real.sqrt_pos.mpr hr), ?_, ?_⟩
      · rw [hsc, h]
        show (if r < 0 then (⊥ : EReal) else if r = 0 then ⊤ else ((√r)⁻¹ : ℝ)) = _
        rw [if_neg (not_lt.mpr hr.le), if_neg hr.ne']
      · rw [← mul_inv, Real.mul_self_sqrt hr.le]
    have hk : ∑ k : Fin 1024, w k * ((a k : EReal) * σ) = (σ : EReal) * ∑ k : Fin 1024, (a k : EReal) * w k := by
      rw [mul_sum σ hσ.le]
      refine Finset.sum_congr rfl fun k _ => ?_
      rw [mul_comm (w k), mul_comm (a k : EReal), mul_assoc]
    generalize hW : ∑ k : Fin 1024, (a k : EReal) * w k = W at hk
    have hv : viaScale (fun d => (a d : EReal)) w = ((-(1 / 2) * (σ * r⁻¹) * (1024 : ℝ)⁻¹ : ℝ) : EReal) * W := by
      rw [viaScale, hs, h, width_eq, minusHalf_eq, div_real _ _ (by norm_num), div_real _ _ hr.ne', hW]
      rw [← EReal.coe_mul, ← EReal.coe_mul, mul_assoc, ← EReal.coe_mul, mul_comm]
    have ht : through (fun d => (a d : EReal)) w d = (σ : EReal) * w d + ((-(σ * (a d * σ) * σ * (1024 : ℝ)⁻¹) : ℝ) : EReal) * W := by
      unfold through nrm
      simp only [hs]
      rw [hk, width_eq, div_real _ _ (by norm_num), sub_eq_add_neg,
        EReal.left_distrib_of_nonneg_of_ne_top (by exact_mod_cast hσ.le) (EReal.coe_ne_top σ), mul_neg, EReal.coe_neg, EReal.neg_mul]
      congr 2
      rw [EReal.coe_mul, EReal.coe_mul, EReal.coe_mul, EReal.coe_mul]
      ac_rfl
    rw [ht, hs, hv, add_assoc, mul_comm (w d), mul_comm _ (a d : EReal), twice, ← mul_assoc, ← mul_assoc, ← EReal.coe_mul, ← EReal.coe_mul]
    congr 3
    rw [← hq]
    ring

end Cert.Fwd
-- ==== Proof.FwdPay.lean ====
/-
One tile's arithmetic of the forward launch, read one element at a time over extended reals: `x` holds a tile of tokens,
`t` the tile of the target, `g` a gain, `o` the tile that the feed-forward block gives, and a `w` one block of a weight matrix.
-/
module

public import proofs.«01_k».proof.Proof.Gen.Kernel2Ideal.Skeleton
public import proofs.«01_k».proof.Proof.FwdNorm
public import Idealize.ShloMosaic.Lib.Pipeline.ValueKit
public import Idealize.ShloMosaic.Lib.ValueIdx
public import Idealize.ShloMosaic.Lib.IdealHost

@[expose] public section

set_option maxRecDepth 16384

noncomputable section

namespace Cert.Kernel2Ideal.Pay

open Cert.Kernel2Ideal Cert.Kernel2Ideal.Gen Idealize.ShloMosaic Idealize.ShloMosaic.TcCoe Idealize.SL.Sem Cert.Ffn Cert.Fwd

/-- A row of a tile. -/
abbrev at512 (v : Vec Ideal S512x1024 .f32) (s : Fin 512) (d : Fin 1024) : EReal := v (ix2 s d)

/-- The one row of a gain. -/
abbrev one (v : Vec Ideal S1x1024 .f32) (d : Fin 1024) : EReal := v (ix2 (0 : Fin 1) d)

section

variable (x o t : Vec Ideal S512x1024 .f32) (g : Vec Ideal S1x1024 .f32) (s : Fin 512) (d : Fin 1024)

/-- The scale of the first norm. -/
theorem scale_at : k0_pay5 x (ix2 s (0 : Fin 1)) = scale (at512 x s) := by
  pointwise [k0_pay5]
  rfl

/-- The normalised tokens. -/
theorem hid_at : k0_pay6 x g (ix2 s d) = hid (at512 x s) (one g) d := by
  pointwise [k0_pay6]
  rw [scale_at]
  rfl

/-- The block's output, normalised. -/
theorem nrm_at : k0_pay34 (F := Ideal) o (ix2 s d) = nrm (at512 o s) d := by
  pointwise [k0_pay34, k0_pay33]
  rfl

/-- How far the sub-layer's output is from the target. -/
theorem diff_at : k0_pay35 (F := Ideal) x o g t (ix2 s d) = diff (at512 x s) (at512 o s) (one g) (at512 t s) d := by
  pointwise [k0_pay35]
  rw [nrm_at]
  rfl

/-- The loss's gradient at the sub-layer's output. -/
theorem slope_at : k0_pay37 (F := Ideal) x o g t (ix2 s d) = slope (at512 x s) (at512 o s) (one g) (at512 t s) d := by
  pointwise [k0_pay37]
  rw [diff_at]
  rfl

/-- The scale of the second norm. -/
theorem scale_out_at : k0_pay33 (F := Ideal) o (ix2 s (0 : Fin 1)) = scale (at512 o s) := by
  pointwise [k0_pay33]
  rfl

/-- The loss's gradient at the block's output, through the second norm. -/
theorem through_at : k0_pay2 (F := Ideal) (k0_pay33 o) (k0_pay34 o) (k0_pay37 x o g t) (k0_pay38 g) (ix2 s d)
    = through (at512 o s) (fun k => slope (at512 x s) (at512 o s) (one g) (at512 t s) k * one g k) d := by
  pointwise [k0_pay2, k0_pay38]
  simp only [slope_at, nrm_at, scale_out_at]
  rfl

/-- The loss with the tile's share added. -/
theorem loss_at (l : Vec Ideal S1x128 .f32) (k : Fin 128) : k0_pay36 (F := Ideal) x o g t l (ix2 (0 : Fin 1) k)
    = l (ix2 (0 : Fin 1) k) + (∑ s : Fin 512, ∑ d : Fin 1024, diff (at512 x s) (at512 o s) (one g) (at512 t s) d * diff (at512 x s) (at512 o s) (one g) (at512 t s) d)
      * Ideal.ofBits .f32 0x3A000000#32 := by
  pointwise [k0_pay36]
  simp only [diff_at]

/-- The gain's gradient with the tile's share added. -/
theorem gain_at (l : Vec Ideal S1x1024 .f32) : k0_pay1 (F := Ideal) (k0_pay34 o) (k0_pay37 x o g t) l (ix2 (0 : Fin 1) d)
    = l (ix2 (0 : Fin 1) d) + ∑ s : Fin 512, slope (at512 x s) (at512 o s) (one g) (at512 t s) d * nrm (at512 o s) d := by
  pointwise [k0_pay1]
  simp only [slope_at, nrm_at]

end

section

variable (h : Vec Ideal S512x1024 .bf16) (a : Vec Ideal S512x1024 .f32) (wg wu : Vec Ideal S1x1024x704 .bf16) (wd : Vec Ideal S1x704x1024 .bf16)
  (p q : Vec Ideal S512x704 .f32) (s : Fin 512) (f : Fin 704) (d : Fin 1024)

theorem first_prod (x : Vec Ideal S512x1024 .f32) (g : Vec Ideal S1x1024 .f32) :
    k0_pay8 (F := Ideal) x g wg (ix2 s f) = ∑ d : Fin 1024, k0_pay6 (F := Ideal) x g (ix2 s d) * wg (ix3 (0 : Fin 1) d f) := by
  pointwise [k0_pay8]

theorem first_prod' (x : Vec Ideal S512x1024 .f32) (g : Vec Ideal S1x1024 .f32) :
    k0_pay9 (F := Ideal) x g wu (ix2 s f) = ∑ d : Fin 1024, k0_pay6 (F := Ideal) x g (ix2 s d) * wu (ix3 (0 : Fin 1) d f) := by
  pointwise [k0_pay9]

theorem prod_one : k0_pay15 (F := Ideal) h wg (ix2 s f) = ∑ d : Fin 1024, h (ix2 s d) * wg (ix3 (0 : Fin 1) d f) := by
  pointwise [k0_pay15]

theorem prod_one' : k0_pay16 (F := Ideal) h wu (ix2 s f) = ∑ d : Fin 1024, h (ix2 s d) * wu (ix3 (0 : Fin 1) d f) := by
  pointwise [k0_pay16]

theorem prod_two : k0_pay20 (F := Ideal) h wg (ix2 s f) = ∑ d : Fin 1024, h (ix2 s d) * wg (ix3 (0 : Fin 1) d f) := by
  pointwise [k0_pay20]

theorem prod_two' : k0_pay21 (F := Ideal) h wu (ix2 s f) = ∑ d : Fin 1024, h (ix2 s d) * wu (ix3 (0 : Fin 1) d f) := by
  pointwise [k0_pay21]

theorem prod_three : k0_pay26 (F := Ideal) h wg (ix2 s f) = ∑ d : Fin 1024, h (ix2 s d) * wg (ix3 (0 : Fin 1) d f) := by
  pointwise [k0_pay26]

theorem prod_three' : k0_pay27 (F := Ideal) h wu (ix2 s f) = ∑ d : Fin 1024, h (ix2 s d) * wu (ix3 (0 : Fin 1) d f) := by
  pointwise [k0_pay27]

theorem act_zero : k0_pay14 (F := Ideal) k0_pay7 (k0_pay13 p q wd) (ix2 s d) = ∑ f : Fin 704, actAt (p (ix2 s f)) (q (ix2 s f)) * wd (ix3 (0 : Fin 1) f d) := by
  pointwise [k0_pay14, k0_pay7, k0_pay13]
  rfl

theorem act_one : k0_pay19 (F := Ideal) a p q wd (ix2 s d) = a (ix2 s d) + ∑ f : Fin 704, actAt (p (ix2 s f)) (q (ix2 s f)) * wd (ix3 (0 : Fin 1) f d) := by
  pointwise [k0_pay19]
  rfl

theorem act_two : k0_pay25 (F := Ideal) a p q (k0_pay24 p) (Scalar.ofBits .f32 0x3F000000#32) wd (ix2 s d)
    = a (ix2 s d) + ∑ f : Fin 704, actAt (p (ix2 s f)) (q (ix2 s f)) * wd (ix3 (0 : Fin 1) f d) := by
  pointwise [k0_pay25, k0_pay24]
  rfl

theorem act_three : k0_pay32 (F := Ideal) a (k0_pay31 p q) wd (ix2 s d)
    = a (ix2 s d) + ∑ f : Fin 704, actAt (p (ix2 s f)) (q (ix2 s f)) * wd (ix3 (0 : Fin 1) f d) := by
  pointwise [k0_pay32, k0_pay31]
  rfl

end

/-- The block's output as the tile computes it: one block of hidden columns after the other. -/
def sub (x : Vec Ideal S512x1024 .f32) (g : Vec Ideal S1x1024 .f32) (g0 u0 g1 u1 g2 u2 g3 u3 : Vec Ideal S1x1024x704 .bf16) (d0 d1 d2 d3 : Vec Ideal S1x704x1024 .bf16) : FVec Ideal S512x1024 .f32 :=
  k0_pay32 (k0_pay25 (k0_pay19 (k0_pay14 k0_pay7 (k0_pay13 (k0_pay8 x g g0) (k0_pay9 x g u0) d0)) (k0_pay15 (k0_pay6 x g) g1) (k0_pay16 (k0_pay6 x g) u1) d1)
    (k0_pay20 (k0_pay6 x g) g2) (k0_pay21 (k0_pay6 x g) u2) (k0_pay24 (k0_pay20 (k0_pay6 x g) g2)) (Scalar.ofBits .f32 0x3F000000#32) d2)
    (k0_pay31 (k0_pay26 (k0_pay6 x g) g3) (k0_pay27 (k0_pay6 x g) u3)) d3

/-- It is the block's output on the tile's tokens, where the twelve blocks are those of the three weight matrices. -/
theorem sub_at (x : Vec Ideal S512x1024 .f32) (g : Vec Ideal S1x1024 .f32) (g0 u0 g1 u1 g2 u2 g3 u3 : Vec Ideal S1x1024x704 .bf16) (d0 d1 d2 d3 : Vec Ideal S1x704x1024 .bf16)
    (wg wu : Fin 1024 → Fin 2816 → EReal) (wd : Fin 2816 → Fin 1024 → EReal)
    (hg0 : ∀ d f, g0 (ix3 (0 : Fin 1) d f) = wg d (col 0 f)) (hu0 : ∀ d f, u0 (ix3 (0 : Fin 1) d f) = wu d (col 0 f)) (hd0 : ∀ f d, d0 (ix3 (0 : Fin 1) f d) = wd (col 0 f) d)
    (hg1 : ∀ d f, g1 (ix3 (0 : Fin 1) d f) = wg d (col 1 f)) (hu1 : ∀ d f, u1 (ix3 (0 : Fin 1) d f) = wu d (col 1 f)) (hd1 : ∀ f d, d1 (ix3 (0 : Fin 1) f d) = wd (col 1 f) d)
    (hg2 : ∀ d f, g2 (ix3 (0 : Fin 1) d f) = wg d (col 2 f)) (hu2 : ∀ d f, u2 (ix3 (0 : Fin 1) d f) = wu d (col 2 f)) (hd2 : ∀ f d, d2 (ix3 (0 : Fin 1) f d) = wd (col 2 f) d)
    (hg3 : ∀ d f, g3 (ix3 (0 : Fin 1) d f) = wg d (col 3 f)) (hu3 : ∀ d f, u3 (ix3 (0 : Fin 1) d f) = wu d (col 3 f)) (hd3 : ∀ f d, d3 (ix3 (0 : Fin 1) f d) = wd (col 3 f) d)
    (s : Fin 512) (d : Fin 1024) :
    sub x g g0 u0 g1 u1 g2 u2 g3 u3 d0 d1 d2 d3 (ix2 s d) = ffn (hid (at512 x s) (one g)) wg wu wd d := by
  unfold sub
  rw [act_three, act_two, act_one, act_zero]
  simp only [first_prod, first_prod', prod_one, prod_one', prod_two, prod_two', prod_three, prod_three', hid_at, hg0, hu0, hd0, hg1, hu1, hd1, hg2, hu2, hd2, hg3, hu3, hd3]
  exact (ffn_blocks _ wg wu wd d).symm

end Cert.Kernel2Ideal.Pay
-- ==== Proof.FwdBody.lean ====
/-
What one grid point of the forward launch leaves: its tile of normalised tokens and of scales, its tiles of the loss's gradient,
and the two sums that go on to the next point. The first point copies the three weight matrices into its scratch; the
later points find them there.
-/
module

public import proofs.«01_k».proof.Proof.FwdHost
public import proofs.«01_k».proof.Proof.FwdPay
public import proofs.«01_k».proof.Proof.Gen.Kernel2Ideal.Frame
public import Idealize.ShloMosaic.Lib.Pipeline.ReadBack

@[expose] public section
set_option maxRecDepth 16384
noncomputable section
namespace Cert.Kernel2Ideal.Points
open Cert.Kernel2Ideal Cert.Kernel2Ideal.Gen Cert.Kernel2Ideal.Host Idealize.ShloMosaic Idealize.ShloMosaic.TcCoe Idealize.SL.Sem Cert.Ffn Cert.Fwd

/-- What a single store of a whole buffer leaves is what it stored. -/
theorem whole_left {S : Shape} {e : EltTy} (w : S.Idx → Elt Ideal e) :
    View.canon [(⟨Rect.whole S, w⟩ : View.Piece (Elt Ideal) S e)] = w := by
  funext y
  have h := View.canon_cons_emb (Val := Elt Ideal) (Rect.whole S) w [] y
  rwa [Rect.emb_whole_apply] at h

/-- A load after a single store of the whole buffer reads what it stored. -/
theorem whole_read {κ : Kind} {sp : Space} {S : Shape} {e : EltTy} (v : View sig κ sp S e) (w : S.Idx → Elt Ideal e) (r : Rect S) :
    v.readCov [(⟨Rect.whole S, w⟩ : View.Piece (Elt Ideal) S e)] r.toLoadRect = View.ld w r := by
  rw [View.readCov_eq_canon', whole_left]

/-! ## The block's output of a tile, from the three arrays in the scratch -/

/-- The feed-forward block's output of a tile. -/
def O (x : Vec Ideal S512x1024 .f32) (g : Vec Ideal S1x1024 .f32) (wg wu : Vec Ideal S4x1024x704 .bf16) (wd : Vec Ideal S4x704x1024 .bf16) : FVec Ideal S512x1024 .f32 :=
  Pay.sub x g
    (View.ld wg (Rect.unit ![0, 0, 0] ![1, 1024, 704] inb_S4x1024x704_S1x1024x704_0_0_0)) (View.ld wu (Rect.unit ![0, 0, 0] ![1, 1024, 704] inb_S4x1024x704_S1x1024x704_0_0_0))
    (View.ld wg (Rect.unit ![1, 0, 0] ![1, 1024, 704] inb_S4x1024x704_S1x1024x704_1_0_0)) (View.ld wu (Rect.unit ![1, 0, 0] ![1, 1024, 704] inb_S4x1024x704_S1x1024x704_1_0_0))
    (View.ld wg (Rect.unit ![2, 0, 0] ![1, 1024, 704] inb_S4x1024x704_S1x1024x704_2_0_0)) (View.ld wu (Rect.unit ![2, 0, 0] ![1, 1024, 704] inb_S4x1024x704_S1x1024x704_2_0_0))
    (View.ld wg (Rect.unit ![3, 0, 0] ![1, 1024, 704] inb_S4x1024x704_S1x1024x704_3_0_0)) (View.ld wu (Rect.unit ![3, 0, 0] ![1, 1024, 704] inb_S4x1024x704_S1x1024x704_3_0_0))
    (View.ld wd (Rect.unit ![0, 0, 0] ![1, 704, 1024] inb_S4x704x1024_S1x704x1024_0_0_0)) (View.ld wd (Rect.unit ![1, 0, 0] ![1, 704, 1024] inb_S4x704x1024_S1x704x1024_1_0_0))
    (View.ld wd (Rect.unit ![2, 0, 0] ![1, 704, 1024] inb_S4x704x1024_S1x704x1024_2_0_0)) (View.ld wd (Rect.unit ![3, 0, 0] ![1, 704, 1024] inb_S4x704x1024_S1x704x1024_3_0_0))

/-- A block of a load is the array's. -/
theorem ld_block {a b : ℕ} (w : Vec Ideal (⟨3, ![4, a, b]⟩ : Shape) .bf16) (n : Fin 4) (off : Fin 3 → ℕ) (inb : ∀ k, off k + (![1, a, b] : Fin 3 → ℕ) k ≤ (![4, a, b] : Fin 3 → ℕ) k)
    (ho : off = ![n.val, 0, 0]) (i : Fin a) (j : Fin b) :
    View.ld w (Rect.unit (s := (⟨3, ![4, a, b]⟩ : Shape)) off ![1, a, b] inb) (ix3 (0 : Fin 1) i j) = w (ix3 n i j) := by
  subst ho
  refine congrArg w (funext fun k => Fin.ext ?_)
  match k with
  | ⟨0, _⟩ => rfl
  | ⟨1, _⟩ => exact (Nat.zero_add _).trans (Nat.one_mul _)
  | ⟨2, _⟩ => exact (Nat.zero_add _).trans (Nat.one_mul _)

theorem O_at (x : Vec Ideal S512x1024 .f32) (g : Vec Ideal S1x1024 .f32) (wg wu : Vec Ideal S4x1024x704 .bf16) (wd : Vec Ideal S4x704x1024 .bf16)
    (Wg Wu : Fin 1024 → Fin 2816 → EReal) (Wd : Fin 2816 → Fin 1024 → EReal)
    (hg : ∀ n d f, wg (ix3 n d f) = Wg d (col n f)) (hu : ∀ n d f, wu (ix3 n d f) = Wu d (col n f)) (hd : ∀ n f d, wd (ix3 n f d) = Wd (col n f) d)
    (s : Fin 512) (d : Fin 1024) : O x g wg wu wd (ix2 s d) = ffn (hid (Pay.at512 x s) (Pay.one g)) Wg Wu Wd d :=
  Pay.sub_at x g _ _ _ _ _ _ _ _ _ _ _ _ Wg Wu Wd
    (fun d f => (ld_block wg 0 _ _ rfl d f).trans (hg 0 d f)) (fun d f => (ld_block wu 0 _ _ rfl d f).trans (hu 0 d f)) (fun f d => (ld_block wd 0 _ _ rfl f d).trans (hd 0 f d))
    (fun d f => (ld_block wg 1 _ _ rfl d f).trans (hg 1 d f)) (fun d f => (ld_block wu 1 _ _ rfl d f).trans (hu 1 d f)) (fun f d => (ld_block wd 1 _ _ rfl f d).trans (hd 1 f d))
    (fun d f => (ld_block wg 2 _ _ rfl d f).trans (hg 2 d f)) (fun d f => (ld_block wu 2 _ _ rfl d f).trans (hu 2 d f)) (fun f d => (ld_block wd 2 _ _ rfl f d).trans (hd 2 f d))
    (fun d f => (ld_block wg 3 _ _ rfl d f).trans (hg 3 d f)) (fun d f => (ld_block wu 3 _ _ rfl d f).trans (hu 3 d f)) (fun f d => (ld_block wd 3 _ _ rfl f d).trans (hd 3 f d))
    s d

variable (m : (ℓ : Loc nD τ sig) → Buf (Elt Ideal) ℓ) (c : Dev nD)

/-! ## The first point -/

/-- The gate's weights as the first point copies them. -/
def cG : Vec Ideal S4x1024x704 .bf16 :=
  View.read (Elt Ideal) ((View.whole main_v3).slice (Rect.unit ![0, 0, 0] ![4, 1024, 704] inb_S4x2048x704_S4x1024x704_0_0_0)) (V m c main_v3)

/-- The other factor's weights as the first point copies them. -/
def cU : Vec Ideal S4x1024x704 .bf16 :=
  View.read (Elt Ideal) ((View.whole main_v3).slice (Rect.unit ![0, 1024, 0] ![4, 1024, 704] inb_S4x2048x704_S4x1024x704_0_1024_0)) (V m c main_v3)

/-- The last product's weights as the first point copies them. -/
def cD : Vec Ideal S4x704x1024 .bf16 :=
  View.read (Elt Ideal) ((View.whole main_v7).slice (Rect.unit ![0, 1024, 0] ![4, 704, 1024] inb_S4x1728x1024_S4x704x1024_0_1024_0)) (V m c main_v7)

/-- A read of a part of an array finds, at an index of the part, what the array holds there. -/
theorem part_at (b : Ref sig .tc) (off size : Fin b.ty.shape.rank → Nat) (inb : ∀ a, off a + size a ≤ b.ty.shape.size a)
    (f : b.ty.Contents (Elt Ideal)) (j : (Rect.unit off size inb).shape.Idx) (i : b.ty.shape.Idx) (hi : ∀ a, (i a).val = off a + (j a).val) :
    View.read (Elt Ideal) ((View.whole b).slice (Rect.unit off size inb)) f j = f i := by
  refine congrArg f (funext fun a => Fin.ext ?_)
  rw [View.emb_slice, Function.Embedding.trans_apply, View.emb_whole, Function.Embedding.refl_apply, Rect.emb_apply, hi a]
  show off a + 1 * (j a).val = _
  omega

theorem cG_at (n : Fin 4) (d : Fin 1024) (f : Fin 704) : cG m c (ix3 n d f) = Wg m c d (col n f) := by
  refine (part_at main_v3 _ _ _ _ (ix3 n d f) (ix3 n (⟨d.val, by omega⟩ : Fin 2048) f) fun a => ?_).trans (gateWeights m c n d f)
  match a with
  | ⟨0, _⟩ => exact (Nat.zero_add _).symm
  | ⟨1, _⟩ => exact (Nat.zero_add _).symm
  | ⟨2, _⟩ => exact (Nat.zero_add _).symm

theorem cU_at (n : Fin 4) (d : Fin 1024) (f : Fin 704) : cU m c (ix3 n d f) = Wu m c d (col n f) := by
  refine (part_at main_v3 _ _ _ _ (ix3 n d f) (ix3 n (⟨1024 + d.val, by omega⟩ : Fin 2048) f) fun a => ?_).trans (factorWeights m c n d f)
  match a with
  | ⟨0, _⟩ => exact (Nat.zero_add _).symm
  | ⟨1, _⟩ => rfl
  | ⟨2, _⟩ => exact (Nat.zero_add _).symm

theorem cD_at (n : Fin 4) (f : Fin 704) (d : Fin 1024) : cD m c (ix3 n f d) = Wd m c (col n f) d := by
  refine (part_at main_v7 _ _ _ _ (ix3 n f d) (ix3 n (⟨1024 + f.val, by omega⟩ : Fin 1728) d) fun a => ?_).trans (lastWeights m c n f d)
  match a with
  | ⟨0, _⟩ => exact (Nat.zero_add _).symm
  | ⟨1, _⟩ => rfl
  | ⟨2, _⟩ => exact (Nat.zero_add _).symm

section First

variable (t : Fin cfg0.N) (h0 : t.val % 32 = 0)

include h0

theorem first_wg : (outsAt0 m c t.val t.isLt).2.2.2.2.2.2.1 = cG m c := by
  rw [outsAt0_A m c t h0]
  dsimp only
  frame_out
  rw [whole_left]
  rfl

theorem first_wu : (outsAt0 m c t.val t.isLt).2.2.2.2.2.2.2.1 = cU m c := by
  rw [outsAt0_A m c t h0]
  dsimp only
  frame_out
  rw [whole_left]
  rfl

theorem first_wd : (outsAt0 m c t.val t.isLt).2.2.2.2.2.2.2.2 = cD m c := by
  rw [outsAt0_A m c t h0]
  dsimp only
  frame_out
  rw [whole_left]
  rfl

theorem first_hid : (outsAt0 m c t.val t.isLt).1 = k0_pay6 (iblk m c 0 t) (iblk m c 2 t) := by
  rw [outsAt0_A m c t h0]
  dsimp only
  frame_out

theorem first_slope : (outsAt0 m c t.val t.isLt).2.2.1
    = k0_pay37 (iblk m c 0 t) (O (iblk m c 0 t) (iblk m c 2 t) (cG m c) (cU m c) (cD m c)) (iblk m c 3 t) (iblk m c 1 t) := by
  rw [outsAt0_A m c t h0]
  dsimp only
  frame_out
  simp only [whole_read]
  rfl

theorem first_through : (outsAt0 m c t.val t.isLt).2.1
    = k0_pay2 (k0_pay33 (O (iblk m c 0 t) (iblk m c 2 t) (cG m c) (cU m c) (cD m c))) (k0_pay34 (O (iblk m c 0 t) (iblk m c 2 t) (cG m c) (cU m c) (cD m c)))
      (k0_pay37 (iblk m c 0 t) (O (iblk m c 0 t) (iblk m c 2 t) (cG m c) (cU m c) (cD m c)) (iblk m c 3 t) (iblk m c 1 t)) (k0_pay38 (iblk m c 3 t)) := by
  rw [outsAt0_A m c t h0]
  dsimp only
  frame_out
  simp only [whole_read]
  rfl

theorem first_loss : (outsAt0 m c t.val t.isLt).2.2.2.1
    = k0_pay36 (iblk m c 0 t) (O (iblk m c 0 t) (iblk m c 2 t) (cG m c) (cU m c) (cD m c)) (iblk m c 3 t) (iblk m c 1 t) (k0_pay3 (F := Ideal)) := by
  rw [outsAt0_A m c t h0]
  dsimp only
  frame_out
  simp only [whole_read]
  rfl

theorem first_gain : (outsAt0 m c t.val t.isLt).2.2.2.2.1
    = k0_pay1 (k0_pay34 (O (iblk m c 0 t) (iblk m c 2 t) (cG m c) (cU m c) (cD m c)))
      (k0_pay37 (iblk m c 0 t) (O (iblk m c 0 t) (iblk m c 2 t) (cG m c) (cU m c) (cD m c)) (iblk m c 3 t) (iblk m c 1 t)) (k0_pay4 (F := Ideal)) := by
  rw [outsAt0_A m c t h0]
  dsimp only
  frame_out
  simp only [whole_read]
  rfl

theorem first_scale : (outsAt0 m c t.val t.isLt).2.2.2.2.2.1 = k0_pay5 (iblk m c 0 t) := by
  rw [outsAt0_A m c t h0]
  dsimp only
  frame_out

end First

/-! ## A later point -/

/-- The point before. -/
def prev (t : Fin cfg0.N) : Fin cfg0.N := ⟨t.val - 1, Nat.lt_of_le_of_lt (Nat.sub_le _ _) t.isLt⟩

/-- What the point before left. -/
abbrev bef (t : Fin cfg0.N) := outsAt0 m c (prev t).val (prev t).isLt

section Later

variable (t : Fin cfg0.N) (h0 : ¬t.val % 32 = 0)

include h0

theorem later_wg : (outsAt0 m c t.val t.isLt).2.2.2.2.2.2.1 = (bef m c t).2.2.2.2.2.2.1 := by
  rw [outsAt0_B m c t h0]
  rfl

theorem later_wu : (outsAt0 m c t.val t.isLt).2.2.2.2.2.2.2.1 = (bef m c t).2.2.2.2.2.2.2.1 := by
  rw [outsAt0_B m c t h0]
  rfl

theorem later_wd : (outsAt0 m c t.val t.isLt).2.2.2.2.2.2.2.2 = (bef m c t).2.2.2.2.2.2.2.2 := by
  rw [outsAt0_B m c t h0]
  rfl

theorem later_hid : (outsAt0 m c t.val t.isLt).1 = k0_pay6 (iblk m c 0 t) (iblk m c 2 t) := by
  rw [outsAt0_B m c t h0]
  dsimp only
  frame_out

theorem later_slope : (outsAt0 m c t.val t.isLt).2.2.1
    = k0_pay37 (iblk m c 0 t) (O (iblk m c 0 t) (iblk m c 2 t) (bef m c t).2.2.2.2.2.2.1 (bef m c t).2.2.2.2.2.2.2.1 (bef m c t).2.2.2.2.2.2.2.2) (iblk m c 3 t) (iblk m c 1 t) := by
  rw [outsAt0_B m c t h0]
  dsimp only
  frame_out
  simp only [read_unread_whole]
  rfl

theorem later_through : (outsAt0 m c t.val t.isLt).2.1
    = k0_pay2 (k0_pay33 (O (iblk m c 0 t) (iblk m c 2 t) (bef m c t).2.2.2.2.2.2.1 (bef m c t).2.2.2.2.2.2.2.1 (bef m c t).2.2.2.2.2.2.2.2)) (k0_pay34 (O (iblk m c 0 t) (iblk m c 2 t) (bef m c t).2.2.2.2.2.2.1 (bef m c t).2.2.2.2.2.2.2.1 (bef m c t).2.2.2.2.2.2.2.2))
      (k0_pay37 (iblk m c 0 t) (O (iblk m c 0 t) (iblk m c 2 t) (bef m c t).2.2.2.2.2.2.1 (bef m c t).2.2.2.2.2.2.2.1 (bef m c t).2.2.2.2.2.2.2.2) (iblk m c 3 t) (iblk m c 1 t)) (k0_pay38 (iblk m c 3 t)) := by
  rw [outsAt0_B m c t h0]
  dsimp only
  frame_out
  simp only [read_unread_whole]
  rfl

theorem later_loss : (outsAt0 m c t.val t.isLt).2.2.2.1
    = k0_pay36 (iblk m c 0 t) (O (iblk m c 0 t) (iblk m c 2 t) (bef m c t).2.2.2.2.2.2.1 (bef m c t).2.2.2.2.2.2.2.1 (bef m c t).2.2.2.2.2.2.2.2) (iblk m c 3 t) (iblk m c 1 t)
      (bef m c t).2.2.2.1 := by
  rw [outsAt0_B m c t h0]
  dsimp only
  frame_out
  simp only [read_unread_whole]
  rfl

theorem later_gain : (outsAt0 m c t.val t.isLt).2.2.2.2.1
    = k0_pay1 (k0_pay34 (O (iblk m c 0 t) (iblk m c 2 t) (bef m c t).2.2.2.2.2.2.1 (bef m c t).2.2.2.2.2.2.2.1 (bef m c t).2.2.2.2.2.2.2.2))
      (k0_pay37 (iblk m c 0 t) (O (iblk m c 0 t) (iblk m c 2 t) (bef m c t).2.2.2.2.2.2.1 (bef m c t).2.2.2.2.2.2.2.1 (bef m c t).2.2.2.2.2.2.2.2) (iblk m c 3 t) (iblk m c 1 t))
      (bef m c t).2.2.2.2.1 := by
  rw [outsAt0_B m c t h0]
  dsimp only
  frame_out
  simp only [read_unread_whole]
  rfl

theorem later_scale : (outsAt0 m c t.val t.isLt).2.2.2.2.2.1 = k0_pay5 (iblk m c 0 t) := by
  rw [outsAt0_B m c t h0]
  dsimp only
  frame_out

end Later

end Cert.Kernel2Ideal.Points
-- ==== Proof.FwdPoints.lean ====
/-
The points of the forward launch, one after the other: the scratch holds the three weight matrices after every point, each point
leaves its tile of the four tiled results, and the two sums hold the shares of the tiles walked so far.
-/
module

public import proofs.«01_k».proof.Proof.FwdBody

@[expose] public section
set_option maxRecDepth 16384
noncomputable section
namespace Cert.Kernel2Ideal.Points
open Cert.Kernel2Ideal Cert.Kernel2Ideal.Gen Cert.Kernel2Ideal.Host Idealize.ShloMosaic Idealize.ShloMosaic.TcCoe Idealize.SL.Sem Cert.Ffn Cert.Fwd

variable (m : (ℓ : Loc nD τ sig) → Buf (Elt Ideal) ℓ) (c : Dev nD)

/-- Three arrays hold the weights. -/
structure Weights (wg wu : Vec Ideal S4x1024x704 .bf16) (wd : Vec Ideal S4x704x1024 .bf16) : Prop where
  g : ∀ n d f, wg (ix3 n d f) = Wg m c d (col n f)
  u : ∀ n d f, wu (ix3 n d f) = Wu m c d (col n f)
  d : ∀ n f d, wd (ix3 n f d) = Wd m c (col n f) d

/-- The feed-forward block's output, for all the tokens. -/
abbrev outAll : Fin 16384 → Fin 1024 → EReal := out (X m c) (G1 m c) (Wg m c) (Wu m c) (Wd m c)

/-- The loss's gradient, for all the tokens. -/
abbrev dyAll : Fin 16384 → Fin 1024 → EReal := dy (X m c) (T m c) (G1 m c) (G2 m c) (Wg m c) (Wu m c) (Wd m c)

/-- The loss's gradient at the block's output, for all the tokens. -/
abbrev doAll (s : Fin 16384) : Fin 1024 → EReal := through (outAll m c s) fun k => dyAll m c s k * G2 m c k

/-- A tile's share of the loss. -/
abbrev lossPart : Fin 32 → EReal := lossOf (X m c) (T m c) (G1 m c) (G2 m c) (Wg m c) (Wu m c) (Wd m c)

/-- A tile's share of the gradient of the second gain. -/
abbrev gainPart (d : Fin 1024) : Fin 32 → EReal := gainOf (X m c) (T m c) (G1 m c) (G2 m c) (Wg m c) (Wu m c) (Wd m c) d

theorem x_row (t : Fin cfg0.N) (s : Fin 512) : Pay.at512 (iblk m c 0 t) s = X m c (row (tile t) s) := funext fun d => blk0 m c t s d

theorem t_row (t : Fin cfg0.N) (s : Fin 512) : Pay.at512 (iblk m c 1 t) s = T m c (row (tile t) s) := funext fun d => blk1 m c t s d

theorem g1_row (t : Fin cfg0.N) : Pay.one (iblk m c 2 t) = G1 m c := funext fun d => blk2 m c t d

theorem g2_row (t : Fin cfg0.N) : Pay.one (iblk m c 3 t) = G2 m c := funext fun d => blk3 m c t d

section

variable {m c} {wg wu : Vec Ideal S4x1024x704 .bf16} {wd : Vec Ideal S4x704x1024 .bf16}

theorem o_row (hw : Weights m c wg wu wd) (t : Fin cfg0.N) (s : Fin 512) :
    Pay.at512 (O (iblk m c 0 t) (iblk m c 2 t) wg wu wd) s = outAll m c (row (tile t) s) := by
  funext d
  refine (O_at _ _ wg wu wd (Wg m c) (Wu m c) (Wd m c) hw.g hw.u hw.d s d).trans ?_
  rw [x_row, g1_row]
  rfl

/-- With the weights in the scratch, a point leaves its tile of the loss's gradient. -/
theorem slope_eq (hw : Weights m c wg wu wd) (t : Fin cfg0.N) (s : Fin 512) (d : Fin 1024) :
    k0_pay37 (F := Ideal) (iblk m c 0 t) (O (iblk m c 0 t) (iblk m c 2 t) wg wu wd) (iblk m c 3 t) (iblk m c 1 t) (ix2 s d) = dyAll m c (row (tile t) s) d := by
  refine (Pay.slope_at _ _ _ _ s d).trans ?_
  rw [x_row, o_row hw, g2_row, t_row]
  rfl

/-- With the weights in the scratch, a point leaves its tile of the loss's gradient at the block's output. -/
theorem through_eq (hw : Weights m c wg wu wd) (t : Fin cfg0.N) (s : Fin 512) (d : Fin 1024) :
    k0_pay2 (F := Ideal) (k0_pay33 (O (iblk m c 0 t) (iblk m c 2 t) wg wu wd)) (k0_pay34 (O (iblk m c 0 t) (iblk m c 2 t) wg wu wd))
        (k0_pay37 (iblk m c 0 t) (O (iblk m c 0 t) (iblk m c 2 t) wg wu wd) (iblk m c 3 t) (iblk m c 1 t)) (k0_pay38 (iblk m c 3 t)) (ix2 s d)
      = doAll m c (row (tile t) s) d := by
  refine (Pay.through_at _ _ _ _ s d).trans ?_
  rw [x_row, o_row hw, g2_row, t_row]
  rfl

/-- With the weights in the scratch, a point adds its tile's share of the loss. -/
theorem loss_eq (hw : Weights m c wg wu wd) (t : Fin cfg0.N) (l : Vec Ideal S1x128 .f32) (k : Fin 128) :
    k0_pay36 (F := Ideal) (iblk m c 0 t) (O (iblk m c 0 t) (iblk m c 2 t) wg wu wd) (iblk m c 3 t) (iblk m c 1 t) l (ix2 (0 : Fin 1) k)
      = l (ix2 (0 : Fin 1) k) + lossPart m c (tile t) := by
  refine (Pay.loss_at _ _ _ _ l k).trans ?_
  simp only [x_row, o_row hw, g2_row, t_row]
  rfl

/-- With the weights in the scratch, a point adds its tile's share of the gradient of the second gain. -/
theorem gain_eq (hw : Weights m c wg wu wd) (t : Fin cfg0.N) (l : Vec Ideal S1x1024 .f32) (d : Fin 1024) :
    k0_pay1 (F := Ideal) (k0_pay34 (O (iblk m c 0 t) (iblk m c 2 t) wg wu wd))
        (k0_pay37 (iblk m c 0 t) (O (iblk m c 0 t) (iblk m c 2 t) wg wu wd) (iblk m c 3 t) (iblk m c 1 t)) l (ix2 (0 : Fin 1) d)
      = l (ix2 (0 : Fin 1) d) + gainPart m c d (tile t) := by
  refine (Pay.gain_at _ _ _ _ d l).trans ?_
  simp only [x_row, o_row hw, g2_row, t_row]
  rfl

end

theorem points (t : Fin cfg0.N) : t.val < 32 := lt_of_lt_of_eq t.isLt (show cfg0.N = 32 from N_0)

/-- A point leaves its tile of normalised tokens. -/
theorem left_hid (t : Fin cfg0.N) (s : Fin 512) (d : Fin 1024) :
    (outsAt0 m c t.val t.isLt).1 (ix2 s d) = hid (X m c (row (tile t) s)) (G1 m c) d := by
  have e : (outsAt0 m c t.val t.isLt).1 = k0_pay6 (iblk m c 0 t) (iblk m c 2 t) := by
    by_cases h0 : t.val % 32 = 0
    · exact first_hid m c t h0
    · exact later_hid m c t h0
  rw [e]
  refine (Pay.hid_at _ _ s d).trans ?_
  rw [x_row, g1_row]

/-- A point leaves its tile of scales. -/
theorem left_scale (t : Fin cfg0.N) (s : Fin 512) :
    (outsAt0 m c t.val t.isLt).2.2.2.2.2.1 (ix2 s (0 : Fin 1)) = scale (X m c (row (tile t) s)) := by
  have e : (outsAt0 m c t.val t.isLt).2.2.2.2.2.1 = k0_pay5 (iblk m c 0 t) := by
    by_cases h0 : t.val % 32 = 0
    · exact first_scale m c t h0
    · exact later_scale m c t h0
  rw [e]
  refine (Pay.scale_at _ s).trans ?_
  rw [x_row]

/-- What a point leaves beside its tiles. -/
structure Inv (t : Fin cfg0.N) : Prop where
  weights : Weights m c (outsAt0 m c t.val t.isLt).2.2.2.2.2.2.1 (outsAt0 m c t.val t.isLt).2.2.2.2.2.2.2.1 (outsAt0 m c t.val t.isLt).2.2.2.2.2.2.2.2
  slope : ∀ (s : Fin 512) (d : Fin 1024), (outsAt0 m c t.val t.isLt).2.2.1 (ix2 s d) = dyAll m c (row (tile t) s) d
  through : ∀ (s : Fin 512) (d : Fin 1024), (outsAt0 m c t.val t.isLt).2.1 (ix2 s d) = doAll m c (row (tile t) s) d
  loss : ∀ k : Fin 128, (outsAt0 m c t.val t.isLt).2.2.2.1 (ix2 (0 : Fin 1) k) = upTo (lossPart m c) (t.val + 1)
  gain : ∀ d : Fin 1024, (outsAt0 m c t.val t.isLt).2.2.2.2.1 (ix2 (0 : Fin 1) d) = upTo (gainPart m c d) (t.val + 1)

theorem no_loss (k : Fin 128) : k0_pay3 (F := Ideal) (ix2 (0 : Fin 1) k) = 0 := by
  pointwise [k0_pay3]

theorem no_gain (d : Fin 1024) : k0_pay4 (F := Ideal) (ix2 (0 : Fin 1) d) = 0 := by
  pointwise [k0_pay4]

theorem copied : Weights m c (cG m c) (cU m c) (cD m c) := ⟨cG_at m c, cU_at m c, cD_at m c⟩

/-- The first point. -/
theorem inv_first (t : Fin cfg0.N) (h0 : t.val % 32 = 0) : Inv m c t := by
  have hz : t.val = 0 := by have := points t; omega
  have ht : tile t = 0 := Fin.ext hz
  refine ⟨?_, fun s d => ?_, fun s d => ?_, fun k => ?_, fun d => ?_⟩
  · rw [first_wg m c t h0, first_wu m c t h0, first_wd m c t h0]
    exact copied m c
  · rw [first_slope m c t h0]
    exact slope_eq (copied m c) t s d
  · rw [first_through m c t h0]
    exact through_eq (copied m c) t s d
  · rw [first_loss m c t h0]
    refine (loss_eq (copied m c) t _ k).trans ?_
    rw [no_loss, zero_add, ht, hz, upTo_one]
  · rw [first_gain m c t h0]
    refine (gain_eq (copied m c) t _ d).trans ?_
    rw [no_gain, zero_add, ht, hz, upTo_one]

/-- A later point, from the point before. -/
theorem inv_later (t : Fin cfg0.N) (h0 : ¬t.val % 32 = 0) (h : Inv m c (prev t)) : Inv m c t := by
  have hp : (prev t).val + 1 = (tile t).val := show t.val - 1 + 1 = t.val by omega
  have ht : t.val = (tile t).val := rfl
  refine ⟨?_, fun s d => ?_, fun s d => ?_, fun k => ?_, fun d => ?_⟩
  · rw [later_wg m c t h0, later_wu m c t h0, later_wd m c t h0]
    exact h.weights
  · rw [later_slope m c t h0]
    exact slope_eq h.weights t s d
  · rw [later_through m c t h0]
    exact through_eq h.weights t s d
  · rw [later_loss m c t h0]
    refine (loss_eq h.weights t _ k).trans ?_
    rw [h.loss k, hp, ht, upTo_succ]
  · rw [later_gain m c t h0]
    refine (gain_eq h.weights t _ d).trans ?_
    rw [h.gain d, hp, ht, upTo_succ]

theorem inv_all : ∀ (n : ℕ) (hn : n < cfg0.N), Inv m c ⟨n, hn⟩
  | 0, hn => inv_first m c ⟨0, hn⟩ rfl
  | n + 1, hn => inv_later m c ⟨n + 1, hn⟩
      (by have := points ⟨n + 1, hn⟩; show ¬(n + 1) % 32 = 0; have : n + 1 < 32 := this; omega)
      (inv_all n (Nat.lt_of_succ_lt hn))

/-- Every point. -/
theorem inv (t : Fin cfg0.N) : Inv m c t := inv_all m c t.val t.isLt

end Cert.Kernel2Ideal.Points
-- ==== Proof.FwdResults.lean ====
/-
The six arrays the forward launch leaves: four are written tile by tile, the loss and the gradient of the second gain by the
last point alone.
-/
module

public import proofs.«01_k».proof.Proof.FwdPoints
public import proofs.«01_k».proof.Proof.Gen.Kernel2Ideal.Value

@[expose] public section
set_option maxRecDepth 16384
noncomputable section
namespace Cert.Kernel2Ideal.Points
open Cert.Kernel2Ideal Cert.Kernel2Ideal.Gen Cert.Kernel2Ideal.Host Idealize.ShloMosaic Idealize.ShloMosaic.TcCoe Idealize.SL.Sem Cert.Ffn Cert.Fwd
open Idealize.ShloMosaic.Pipeline (Dat)

variable (m : (ℓ : Loc nD τ sig) → Buf (Elt Ideal) ℓ) (c : Dev nD)

/-- The normalised tokens. -/
def rHid : Vec Ideal S16384x1024 .bf16 := fun i => hid (X m c (i 0)) (G1 m c) (i 1)

/-- The loss's gradient. -/
def rSlope : Vec Ideal S16384x1024 .f32 := fun i => dyAll m c (i 0) (i 1)

/-- The loss's gradient at the block's output. -/
def rThrough : Vec Ideal S16384x1024 .bf16 := fun i => doAll m c (i 0) (i 1)

/-- The loss, in every lane. -/
def rLoss : Vec Ideal S1x128 .f32 := fun _ => loss (X m c) (T m c) (G1 m c) (G2 m c) (Wg m c) (Wu m c) (Wd m c)

/-- The gradient of the second gain. -/
def rGain : Vec Ideal S1x1024 .f32 := fun i => gain (X m c) (T m c) (G1 m c) (G2 m c) (Wg m c) (Wu m c) (Wd m c) (i 1)

/-- The scales. -/
def rScale : Vec Ideal S16384x1 .f32 := fun i => scale (X m c (i 0))

theorem result_hid : (dats m 0 c).arrAt 4 cfg0.N = rHid m c := by
  refine Dat.arrAt_eq_of_covers (dats m 0 c) 4 _ (by decide +kernel) fun t hf y => ?_
  blk_simp
  rw [after0_4]
  obtain ⟨s, d, rfl⟩ : ∃ (s : Fin 512) (d : Fin 1024), y = ix2 s d := ⟨y 0, y 1, ValueIdx.eq_ix2 y⟩
  refine (left_hid m c t s d).trans ?_
  have e := (idx t).2.2.2.2.1
  have e0 : (win0_4.blk t).view.emb (ix2 s d) 0 = row (tile t) s := by
    refine Fin.ext ?_
    blk_simp [e]
    rfl
  have e1 : (win0_4.blk t).view.emb (ix2 s d) 1 = d := by
    refine Fin.ext ?_
    blk_simp [e]
  rw [rHid, e0, e1]

theorem result_slope : (dats m 0 c).arrAt 6 cfg0.N = rSlope m c := by
  refine Dat.arrAt_eq_of_covers (dats m 0 c) 6 _ (by decide +kernel) fun t hf y => ?_
  blk_simp
  rw [after0_6]
  obtain ⟨s, d, rfl⟩ : ∃ (s : Fin 512) (d : Fin 1024), y = ix2 s d := ⟨y 0, y 1, ValueIdx.eq_ix2 y⟩
  refine ((inv m c t).slope s d).trans ?_
  have e := (idx t).2.2.2.2.2.1
  have e0 : (win0_6.blk t).view.emb (ix2 s d) 0 = row (tile t) s := by
    refine Fin.ext ?_
    blk_simp [e]
    rfl
  have e1 : (win0_6.blk t).view.emb (ix2 s d) 1 = d := by
    refine Fin.ext ?_
    blk_simp [e]
  rw [rSlope, e0, e1]

theorem idx_through : ∀ t : Fin cfg0.N, win0_5.index t = ![t.val, 0] :=
  (by decide +kernel : ∀ t : Fin grid0.N, win0_5.index t = ![t.val, 0])

theorem result_through : (dats m 0 c).arrAt 5 cfg0.N = rThrough m c := by
  refine Dat.arrAt_eq_of_covers (dats m 0 c) 5 _ (by decide +kernel) fun t hf y => ?_
  blk_simp
  rw [after0_5]
  obtain ⟨s, d, rfl⟩ : ∃ (s : Fin 512) (d : Fin 1024), y = ix2 s d := ⟨y 0, y 1, ValueIdx.eq_ix2 y⟩
  refine ((inv m c t).through s d).trans ?_
  have e := idx_through t
  have e0 : (win0_5.blk t).view.emb (ix2 s d) 0 = row (tile t) s := by
    refine Fin.ext ?_
    blk_simp [e]
    rfl
  have e1 : (win0_5.blk t).view.emb (ix2 s d) 1 = d := by
    refine Fin.ext ?_
    blk_simp [e]
  rw [rThrough, e0, e1]

theorem result_scale : (dats m 0 c).arrAt 9 cfg0.N = rScale m c := by
  refine Dat.arrAt_eq_of_covers (dats m 0 c) 9 _ (by decide +kernel) fun t hf y => ?_
  blk_simp
  rw [after0_9]
  obtain ⟨s, rfl⟩ : ∃ s : Fin 512, y = ix2 s (0 : Fin 1) := by
    refine ⟨y 0, funext fun a => ?_⟩
    match a with
    | ⟨0, _⟩ => rfl
    | ⟨1, _⟩ => exact Fin.ext (by have : (y 1).val < 1 := (y 1).isLt; show (y 1).val = 0; omega)
  refine (left_scale m c t s).trans ?_
  have e := (idx t).2.2.2.2.2.2.2.2
  have e0 : (win0_9.blk t).view.emb (ix2 s (0 : Fin 1)) 0 = row (tile t) s := by
    refine Fin.ext ?_
    blk_simp [e]
    rfl
  rw [rScale, e0]

/-- The sums are written by the last point alone. -/
theorem last_only : ∀ t : Fin cfg0.N, ((cfg0.win 7).flush t = true → t.val = 31) ∧ ((cfg0.win 8).flush t = true → t.val = 31) :=
  (by decide +kernel : ∀ t : Fin grid0.N, (win0_7.flush t = true → t.val = 31) ∧ (win0_8.flush t = true → t.val = 31))

theorem result_loss : (dats m 0 c).arrAt 7 cfg0.N = rLoss m c := by
  refine Dat.arrAt_eq_of_covers (dats m 0 c) 7 _ (by decide +kernel) fun t hf y => ?_
  have h31 := (last_only t).1 hf
  blk_simp
  rw [after0_7]
  obtain ⟨k, rfl⟩ : ∃ k : Fin 128, y = ix2 (0 : Fin 1) k := by
    refine ⟨y 1, funext fun a => ?_⟩
    match a with
    | ⟨0, _⟩ => exact Fin.ext (by have : (y 0).val < 1 := (y 0).isLt; show (y 0).val = 0; omega)
    | ⟨1, _⟩ => rfl
  refine ((inv m c t).loss k).trans ?_
  rw [h31, rLoss, loss]
  exact upTo_all _

theorem result_gain : (dats m 0 c).arrAt 8 cfg0.N = rGain m c := by
  refine Dat.arrAt_eq_of_covers (dats m 0 c) 8 _ (by decide +kernel) fun t hf y => ?_
  have h31 := (last_only t).2 hf
  blk_simp
  rw [after0_8]
  obtain ⟨d, rfl⟩ : ∃ d : Fin 1024, y = ix2 (0 : Fin 1) d := by
    refine ⟨y 1, funext fun a => ?_⟩
    match a with
    | ⟨0, _⟩ => exact Fin.ext (by have : (y 0).val < 1 := (y 0).isLt; show (y 0).val = 0; omega)
    | ⟨1, _⟩ => rfl
  refine ((inv m c t).gain d).trans ?_
  have e := (idx t).2.2.2.2.2.2.2.1
  have e1 : (win0_8.blk t).view.emb (ix2 (0 : Fin 1) d) 1 = d := by
    refine Fin.ext ?_
    blk_simp [e]
  rw [h31, rGain, e1, gain_tiles]
  exact upTo_all _

end Cert.Kernel2Ideal.Points
-- ==== Proof.FwdEntries.lean ====
/-
The reference's six results, entry by entry, as the sums of FwdSpec: its loss is half the sum of the rows' means, where the
kernel adds its tiles' shares, and its gradient multiplies by two halves of the mean's factor.
-/
module

public import proofs.«01_k».proof.Proof.FwdNorm
public import proofs.«01_k».proof.Proof.Gen.Reference2Ideal.Run
public import proofs.«01_k».proof.Proof.Gen.Reference2Ideal.Read
public import Idealize.ShloMosaic.Lib.Pipeline.ValueKit
public import Idealize.ShloMosaic.Lib.ValueIdx

@[expose] public section
set_option maxRecDepth 16384
noncomputable section
namespace Cert.Reference2Ideal.Entries
open Cert.Reference2Ideal Cert.Reference2Ideal.Gen Cert.Reference2Ideal.Value Cert.Reference2Ideal.Read Idealize.ShloMosaic Idealize.ShloMosaic.TcCoe Idealize.SL.Sem Cert.Ffn Cert.Fwd

variable (x0 x1 : (⟨S16384x1024, .f32⟩ : BufTy).Contents (Elt Ideal)) (x2 x3 : (⟨S1024, .f32⟩ : BufTy).Contents (Elt Ideal))
  (x4 x5 : (⟨S1024x2816, .f32⟩ : BufTy).Contents (Elt Ideal)) (x6 : (⟨S2816x1024, .f32⟩ : BufTy).Contents (Elt Ideal))

/-- An array of tokens as a matrix. -/
abbrev tk (x : (⟨S16384x1024, .f32⟩ : BufTy).Contents (Elt Ideal)) (s : Fin 16384) (d : Fin 1024) : EReal := x (ix2 s d)

/-- A gain as a row. -/
abbrev gn (x : (⟨S1024, .f32⟩ : BufTy).Contents (Elt Ideal)) (d : Fin 1024) : EReal := x (ix1 d)

/-- A weight matrix of the gated product. -/
abbrev wt (x : (⟨S1024x2816, .f32⟩ : BufTy).Contents (Elt Ideal)) (d : Fin 1024) (f : Fin 2816) : EReal := x (ix2 d f)

/-- The weight matrix of the last product. -/
abbrev wl (x : (⟨S2816x1024, .f32⟩ : BufTy).Contents (Elt Ideal)) (f : Fin 2816) (d : Fin 1024) : EReal := x (ix2 f d)

/-- The scale of the first norm, as a result. -/
theorem scale_at (s : Fin 16384) : val_main_v81 x0 (ix2 s (0 : Fin 1)) = scale (tk x0 s) := by
  pointwise [val_main_v81, val_main_v80, val_main_v79, val_main_v78, val_main_v77, val_main_v76, val_main_v75, val_main_v74, val_main_cst_19, val_main_cst_20, val_main_cst_21]
  rfl

theorem scale_in (s : Fin 16384) : val_main_v7 x0 (ix2 s (0 : Fin 1)) = scale (tk x0 s) := by
  pointwise [val_main_v7, val_main_v6, val_main_v5, val_main_v4, val_main_v3, val_main_v2, val_main_v1, val_main_v0, val_main_cst, val_main_cst_0, val_main_cst_1]
  rfl

theorem hid_in (s : Fin 16384) (d : Fin 1024) : val_main_v12 x0 x2 (ix2 s d) = hid (tk x0 s) (gn x2) d := by
  pointwise [val_main_v12, val_main_v11, val_main_v10, val_main_v9, val_main_v8]
  rw [scale_in]
  rfl

/-- The normalised tokens, as a result. -/
theorem hid_at (s : Fin 16384) (d : Fin 1024) : val_main_v70 x0 x2 (ix2 s d) = hid (tk x0 s) (gn x2) d := by
  pointwise [val_main_v70]
  exact hid_in x0 x2 s d

theorem gate_in (s : Fin 16384) (f : Fin 2816) : val_main_v13 x0 x2 x4 (ix2 s f) = prj (hid (tk x0 s) (gn x2)) (wt x4) f := by
  pointwise [val_main_v13]
  simp only [hid_in]
  rfl

theorem factor_in (s : Fin 16384) (f : Fin 2816) : val_main_v15 x0 x2 x5 (ix2 s f) = prj (hid (tk x0 s) (gn x2)) (wt x5) f := by
  pointwise [val_main_v15]
  simp only [hid_in]
  rfl

theorem act_in (s : Fin 16384) (f : Fin 2816) :
    val_main_v16 x0 x2 x4 x5 (ix2 s f) = actAt (prj (hid (tk x0 s) (gn x2)) (wt x4) f) (prj (hid (tk x0 s) (gn x2)) (wt x5) f) := by
  rw [actAt, sig_eq, ← gate_in, ← factor_in]
  pointwise [val_main_v16, val_main_v14, val_main_call0_v0, val_main_call0_v1, val_main_call0_v2, val_main_call0_v3, val_main_call0_v4, val_main_call0_v5, val_main_call0_cst, val_main_call0_cst_0]
  rfl

/-- The feed-forward block's output. -/
abbrev o (s : Fin 16384) : Fin 1024 → EReal := out (tk x0) (gn x2) (wt x4) (wt x5) (wl x6) s

theorem out_in (s : Fin 16384) (d : Fin 1024) : val_main_v17 x0 x2 x4 x5 x6 (ix2 s d) = o x0 x2 x4 x5 x6 s d := by
  pointwise [val_main_v17]
  simp only [act_in]
  rfl

theorem nrm_in (s : Fin 16384) (d : Fin 1024) : val_main_v30 x0 x2 x4 x5 x6 (ix2 s d) = nrm (o x0 x2 x4 x5 x6 s) d := by
  pointwise [val_main_v30, val_main_v29, val_main_v25, val_main_v24, val_main_v23, val_main_v22, val_main_v21, val_main_v20, val_main_v19, val_main_v18, val_main_cst_2, val_main_cst_3, val_main_cst_4]
  simp only [out_in]
  rfl

/-- How far the sub-layer's output is from the target. -/
abbrev fr (s : Fin 16384) : Fin 1024 → EReal := far (tk x0) (tk x1) (gn x2) (gn x3) (wt x4) (wt x5) (wl x6) s

theorem far_in (s : Fin 16384) (d : Fin 1024) : val_main_v35 x0 x1 x2 x3 x4 x5 x6 (ix2 s d) = fr x0 x1 x2 x3 x4 x5 x6 s d := by
  pointwise [val_main_v35, val_main_v34, val_main_v33, val_main_v32, val_main_v31]
  rw [nrm_in]
  rfl

/-- Twice half the mean's factor. -/
theorem factor_eq (z : EReal) : Ideal.div (Ideal.ofBits .f32 0x3F000000#32) (Ideal.ofBits .f32 0x44800000#32) * (Ideal.ofBits .f32 0x40000000#32 * z)
    = z * Ideal.ofBits .f32 0x3A800000#32 := by
  rw [half_eq, width_eq, two_eq, perWidth_eq, ← mul_assoc, mul_comm z]
  congr 1
  rw [Ideal.div, if_neg (by norm_num), ← EReal.coe_inv, ← EReal.coe_mul, ← EReal.coe_mul]
  norm_num

/-- The loss's gradient. -/
theorem dy_at (s : Fin 16384) (d : Fin 1024) :
    val_main_v49 x0 x1 x2 x3 x4 x5 x6 (ix2 s d) = dy (tk x0) (tk x1) (gn x2) (gn x3) (wt x4) (wt x5) (wl x6) s d := by
  pointwise [val_main_v49, val_main_v48, val_main_v47, val_main_v46, val_main_v45, val_main_v44, val_main_v38, val_main_v37, val_main_cst_6, val_main_cst_11, val_main_cst_12, val_main_cst_13]
  rw [far_in]
  exact factor_eq _

/-- The gradient of the second gain. -/
theorem gain_at (d : Fin 1024) :
    val_main_v73 x0 x1 x2 x3 x4 x5 x6 (ix2 (0 : Fin 1) d) = gain (tk x0) (tk x1) (gn x2) (gn x3) (wt x4) (wt x5) (wl x6) d := by
  pointwise [val_main_v73, val_main_v55, val_main_v52, val_main_v51, val_main_v50, val_main_cst_14, val_main_cst_15]
  simp only [nrm_in, dy_at]
  rw [Fin.sum_univ_one, gain]
  refine Finset.sum_congr rfl fun s _ => ?_
  rw [mul_comm]

theorem scale_out (s : Fin 16384) : val_main_v25 x0 x2 x4 x5 x6 (ix2 s (0 : Fin 1)) = scale (o x0 x2 x4 x5 x6 s) := by
  pointwise [val_main_v25, val_main_v24, val_main_v23, val_main_v22, val_main_v21, val_main_v20, val_main_v19, val_main_v18, val_main_cst_2, val_main_cst_3, val_main_cst_4]
  simp only [out_in]
  rfl

theorem meanSq_out (s : Fin 16384) : val_main_v24 x0 x2 x4 x5 x6 (ix2 s (0 : Fin 1)) = meanSq (o x0 x2 x4 x5 x6 s) := by
  pointwise [val_main_v24, val_main_v23, val_main_v22, val_main_v21, val_main_v20, val_main_v19, val_main_v18, val_main_cst_2, val_main_cst_3, val_main_cst_4]
  simp only [out_in]
  rfl

/-- The loss's gradient at the normalised row. -/
abbrev dn (s : Fin 16384) (k : Fin 1024) : EReal := dy (tk x0) (tk x1) (gn x2) (gn x3) (wt x4) (wt x5) (wl x6) s k * gn x3 k

theorem dn_in (s : Fin 16384) (d : Fin 1024) : val_main_v54 x0 x1 x2 x3 x4 x5 x6 (ix2 s d) = dn x0 x1 x2 x3 x4 x5 x6 s d := by
  pointwise [val_main_v54, val_main_v53, val_main_v31]
  rw [dy_at]

theorem via_in (s : Fin 16384) (d : Fin 1024) :
    val_main_v65 x0 x1 x2 x3 x4 x5 x6 (ix2 s d) = viaScale (o x0 x2 x4 x5 x6 s) (dn x0 x1 x2 x3 x4 x5 x6 s) := by
  pointwise [val_main_v65, val_main_v64, val_main_v63, val_main_v62, val_main_v61, val_main_v58, val_main_v57, val_main_v56, val_main_v28, val_main_v27, val_main_v26, val_main_cst_5, val_main_cst_16,
    val_main_cst_17, val_main_cst_18]
  simp only [out_in, dn_in, scale_out, meanSq_out, Fin.sum_univ_one]
  rfl

/-- The loss's gradient at the block's output. -/
theorem through_at (s : Fin 16384) (d : Fin 1024) :
    val_main_v71 x0 x1 x2 x3 x4 x5 x6 (ix2 s d) = through (o x0 x2 x4 x5 x6 s) (dn x0 x1 x2 x3 x4 x5 x6 s) d := by
  pointwise [val_main_v71, val_main_v69, val_main_v68, val_main_v67, val_main_v66, val_main_v60, val_main_v59]
  rw [out_in, dn_in, via_in, scale_out]
  exact through_eq _ _ d

theorem row_in (s : Fin 16384) : val_main_v41 x0 x1 x2 x3 x4 x5 x6 (ix1 s)
    = (∑ d : Fin 1024, fr x0 x1 x2 x3 x4 x5 x6 s d * fr x0 x1 x2 x3 x4 x5 x6 s d) * ((1 / 1024 : ℝ) : EReal) := by
  pointwise [val_main_v41, val_main_v40, val_main_v39, val_main_v36, val_main_cst_7, val_main_cst_8]
  simp only [far_in]
  rw [width_eq, Ideal.div, if_neg (by norm_num), one_div, EReal.coe_inv]

theorem sum_ix1 (M : S16384.Idx → EReal) : ∑ j, M j = ∑ s : Fin 16384, M (ix1 s) := by
  refine (Fintype.sum_equiv ⟨fun s => ix1 s, fun j => j 0, fun s => rfl, fun j => ?_⟩ _ _ fun s => rfl).symm
  funext a
  match a with
  | ⟨0, _⟩ => rfl

/-- Half the sum of the rows' means is the sum of the tiles' shares. -/
theorem halves (q : Fin 16384 → EReal) :
    Ideal.ofBits .f32 0x3F000000#32 * ∑ s, q s * ((1 / 1024 : ℝ) : EReal) = ∑ i : Fin 32, (∑ s : Fin 512, q (row i s)) * Ideal.ofBits .f32 0x3A000000#32 := by
  rw [half_eq, halfPerWidth_eq, mul_sum _ (by norm_num), sum_tiles]
  refine Finset.sum_congr rfl fun i _ => ?_
  rw [mul_comm (∑ s, q (row i s)), mul_sum _ (by norm_num)]
  refine Finset.sum_congr rfl fun s _ => ?_
  rw [mul_comm (q _), ← mul_assoc]
  congr 1
  norm_cast
  norm_num

/-- The loss. -/
theorem loss_at (k : Fin 128) :
    val_main_v72 x0 x1 x2 x3 x4 x5 x6 (ix2 (0 : Fin 1) k) = loss (tk x0) (tk x1) (gn x2) (gn x3) (wt x4) (wt x5) (wl x6) := by
  rw [val_main_v72_apply, val_main_v43_apply, val_main_v42_apply, sum_ix1]
  simp only [row_in]
  refine Eq.trans ?_ (halves fun s => ∑ d : Fin 1024, fr x0 x1 x2 x3 x4 x5 x6 s d * fr x0 x1 x2 x3 x4 x5 x6 s d)
  pointwise [val_main_cst_9, val_main_cst_10]

end Cert.Reference2Ideal.Entries
-- ==== Proof.Body.lean ====
/-
What one grid point computes, read one element at a time over extended reals. A point holds a tile of tokens `x0`, the
tile of the incoming gradient `x1`, the gate's inputs `x2` and the other factors `x3` of two blocks of hidden columns,
and the weights of these two blocks.
-/
module

public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.ValueIdx
public import Idealize.ShloMosaic.Lib.IdealHost

@[expose] public section

set_option maxRecDepth 16384

noncomputable section

namespace Cert.KernelIdeal.Body

open Cert.KernelIdeal Cert.KernelIdeal.Gen Idealize.ShloMosaic Idealize.ShloMosaic.TcCoe Idealize.SL.Sem Cert.Ffn

/-! ## One store of a whole buffer, and one store of each of its two blocks -/

/-- A buffer that one store fills whole holds what was stored. -/
theorem canon_whole {S : Shape} {e : EltTy} (w : S.Idx → Elt Ideal e) :
    View.canon [(⟨Rect.whole S, w⟩ : View.Piece (Elt Ideal) S e)] = w := by
  funext y
  have h := View.canon_cons_emb (Val := Elt Ideal) (Rect.whole S) w [] y
  rwa [Rect.emb_whole_apply] at h

/-- A load from a buffer that one store fills whole is the load from what was stored. -/
theorem readCov_whole {κ : Kind} {sp : Space} {S : Shape} {e : EltTy} (v : View sig κ sp S e) (w : S.Idx → Elt Ideal e) (r : Rect S) :
    v.readCov [(⟨Rect.whole S, w⟩ : View.Piece (Elt Ideal) S e)] r.toLoadRect = View.ld w r := by
  rw [View.readCov_eq_canon', canon_whole]

/-- After a store of block 0 and one of block 1, block 1 holds the second payload. -/
theorem canon_one (p1 p0 : S1x704x1024.Idx → Elt Ideal .f32) (L : List (View.Piece (Elt Ideal) S2x704x1024 .f32)) (r : Fin 704) (d : Fin 1024) :
    View.canon (⟨Rect.unit ![1, 0, 0] ![1, 704, 1024] inb_S2x704x1024_S1x704x1024_1_0_0, p1⟩ :: ⟨Rect.unit ![0, 0, 0] ![1, 704, 1024] inb_S2x704x1024_S1x704x1024_0_0_0, p0⟩ :: L) (ix3 (1 : Fin 2) r d)
      = p1 (ix3 (0 : Fin 1) r d) := by
  have e : (Rect.unit ![1, 0, 0] ![1, 704, 1024] inb_S2x704x1024_S1x704x1024_1_0_0).emb (ix3 (0 : Fin 1) r d) = ix3 (1 : Fin 2) r d := by
    funext a; fin_cases a <;> refine Fin.ext ?_ <;> simp [Rect.emb, Rect.unit, ix3]
  rw [← e]
  exact View.canon_cons_emb _ _ _ _

/-- After a store of block 0 and one of block 1, block 0 holds the first payload. -/
theorem canon_zero (p1 p0 : S1x704x1024.Idx → Elt Ideal .f32) (L : List (View.Piece (Elt Ideal) S2x704x1024 .f32)) (r : Fin 704) (d : Fin 1024) :
    View.canon (⟨Rect.unit ![1, 0, 0] ![1, 704, 1024] inb_S2x704x1024_S1x704x1024_1_0_0, p1⟩ :: ⟨Rect.unit ![0, 0, 0] ![1, 704, 1024] inb_S2x704x1024_S1x704x1024_0_0_0, p0⟩ :: L) (ix3 (0 : Fin 2) r d)
      = p0 (ix3 (0 : Fin 1) r d) := by
  have e : (Rect.unit ![0, 0, 0] ![1, 704, 1024] inb_S2x704x1024_S1x704x1024_0_0_0).emb (ix3 (0 : Fin 1) r d) = ix3 (0 : Fin 2) r d := by
    funext a; fin_cases a <;> refine Fin.ext ?_ <;> simp [Rect.emb, Rect.unit, ix3]
  rw [View.canon_cons_of_not_mem _ _ ?_]
  · rw [← e]
    exact View.canon_cons_emb _ _ _ _
  · rw [Rect.mem_set_unit]
    intro hm
    exact absurd (hm 0).1 (by simp [ix3])

/-! ## The values of a point -/

/-- The derivative towards the gated product, of token `s` of the tile in column `f` of block `b`. -/
def da (x1 : Vec Ideal S512x1024 .bf16) (w : Vec Ideal S2x704x1024 .bf16) (b : Fin 2) (s : Fin 512) (f : Fin 704) : EReal :=
  ∑ d : Fin 1024, x1 (ix2 s d) * w (ix3 b f d)

/-- The derivative towards the gate's input. -/
def dg (x1 : Vec Ideal S512x1024 .bf16) (x2 x3 : Vec Ideal S2x512x704 .bf16) (w : Vec Ideal S2x704x1024 .bf16) (b : Fin 2) (s : Fin 512) (f : Fin 704) : EReal :=
  dgateAt (x2 (ix3 b s f)) (x3 (ix3 b s f)) (da x1 w b s f)

/-- The derivative towards the other factor. -/
def du (x1 : Vec Ideal S512x1024 .bf16) (x2 : Vec Ideal S2x512x704 .bf16) (w : Vec Ideal S2x704x1024 .bf16) (b : Fin 2) (s : Fin 512) (f : Fin 704) : EReal :=
  dupAt (x2 (ix3 b s f)) (da x1 w b s f)

/-- The point's share of the gradient of the gate's weights. -/
def addG (x0 x1 : Vec Ideal S512x1024 .bf16) (x2 x3 : Vec Ideal S2x512x704 .bf16) (w : Vec Ideal S2x704x1024 .bf16) (b : Fin 2) (r : Fin 704) (d : Fin 1024) : EReal :=
  ∑ s : Fin 512, dg x1 x2 x3 w b s r * x0 (ix2 s d)

/-- The point's share of the gradient of the other factor's weights. -/
def addU (x0 x1 : Vec Ideal S512x1024 .bf16) (x2 : Vec Ideal S2x512x704 .bf16) (w : Vec Ideal S2x704x1024 .bf16) (b : Fin 2) (r : Fin 704) (d : Fin 1024) : EReal :=
  ∑ s : Fin 512, du x1 x2 w b s r * x0 (ix2 s d)

/-- The point's share of the gradient of the last product's weights. -/
def addD (x1 : Vec Ideal S512x1024 .bf16) (x2 x3 : Vec Ideal S2x512x704 .bf16) (b : Fin 2) (r : Fin 704) (d : Fin 1024) : EReal :=
  ∑ s : Fin 512, actAt (x2 (ix3 b s r)) (x3 (ix3 b s r)) * x1 (ix2 s d)

/-- The gradient of the tile's tokens through the point's two blocks. -/
def tok (x1 : Vec Ideal S512x1024 .bf16) (x2 x3 : Vec Ideal S2x512x704 .bf16) (wg wu : Vec Ideal S2x1024x704 .bf16) (w : Vec Ideal S2x704x1024 .bf16) (s : Fin 512) (d : Fin 1024) : EReal :=
  ∑ f : Fin 704, dg x1 x2 x3 w 0 s f * wg (ix3 (0 : Fin 2) d f) + ∑ f : Fin 704, du x1 x2 w 0 s f * wu (ix3 (0 : Fin 2) d f)
    + ∑ f : Fin 704, dg x1 x2 x3 w 1 s f * wg (ix3 (1 : Fin 2) d f) + ∑ f : Fin 704, du x1 x2 w 1 s f * wu (ix3 (1 : Fin 2) d f)

/-- A point inside a half keeps the gate's weights. -/
theorem keep_B_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec Ideal S512x1024 .bf16) (x1 : Vec Ideal S512x1024 .bf16) (x2 : Vec Ideal S2x512x704 .bf16) (x3 : Vec Ideal S2x512x704 .bf16) (xs0 : Vec Ideal S2x1024x704 .bf16) (xs1 : Vec Ideal S2x1024x704 .bf16) (xs2 : Vec Ideal S2x704x1024 .bf16) (xs3 : Vec Ideal S2x704x1024 .f32) (xs4 : Vec Ideal S2x704x1024 .f32) (xs5 : Vec Ideal S2x704x1024 .f32) (fh0 : HbBuf0 (F := Ideal) c hbM0_0) (fh1 : HbBuf0 (F := Ideal) c hbM0_1) :
    sout0_B_0 (F := Ideal) c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 = xs0 := by
  rfl

/-- A point inside a half keeps the other factor's weights. -/
theorem keep_B_1 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec Ideal S512x1024 .bf16) (x1 : Vec Ideal S512x1024 .bf16) (x2 : Vec Ideal S2x512x704 .bf16) (x3 : Vec Ideal S2x512x704 .bf16) (xs0 : Vec Ideal S2x1024x704 .bf16) (xs1 : Vec Ideal S2x1024x704 .bf16) (xs2 : Vec Ideal S2x704x1024 .bf16) (xs3 : Vec Ideal S2x704x1024 .f32) (xs4 : Vec Ideal S2x704x1024 .f32) (xs5 : Vec Ideal S2x704x1024 .f32) (fh0 : HbBuf0 (F := Ideal) c hbM0_0) (fh1 : HbBuf0 (F := Ideal) c hbM0_1) :
    sout0_B_1 (F := Ideal) c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 = xs1 := by
  rfl

/-- A point inside a half keeps the last product's weights. -/
theorem keep_B_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec Ideal S512x1024 .bf16) (x1 : Vec Ideal S512x1024 .bf16) (x2 : Vec Ideal S2x512x704 .bf16) (x3 : Vec Ideal S2x512x704 .bf16) (xs0 : Vec Ideal S2x1024x704 .bf16) (xs1 : Vec Ideal S2x1024x704 .bf16) (xs2 : Vec Ideal S2x704x1024 .bf16) (xs3 : Vec Ideal S2x704x1024 .f32) (xs4 : Vec Ideal S2x704x1024 .f32) (xs5 : Vec Ideal S2x704x1024 .f32) (fh0 : HbBuf0 (F := Ideal) c hbM0_0) (fh1 : HbBuf0 (F := Ideal) c hbM0_1) :
    sout0_B_2 (F := Ideal) c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 = xs2 := by
  rfl

/-- The last point of a half keeps the gate's weights. -/
theorem keep_C_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : cond0_1 i)
    (x0 : Vec Ideal S512x1024 .bf16) (x1 : Vec Ideal S512x1024 .bf16) (x2 : Vec Ideal S2x512x704 .bf16) (x3 : Vec Ideal S2x512x704 .bf16) (xs0 : Vec Ideal S2x1024x704 .bf16) (xs1 : Vec Ideal S2x1024x704 .bf16) (xs2 : Vec Ideal S2x704x1024 .bf16) (xs3 : Vec Ideal S2x704x1024 .f32) (xs4 : Vec Ideal S2x704x1024 .f32) (xs5 : Vec Ideal S2x704x1024 .f32) (fh0 : HbBuf0 (F := Ideal) c hbM0_0) (fh1 : HbBuf0 (F := Ideal) c hbM0_1) :
    sout0_C_0 (F := Ideal) c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 = xs0 := by
  rfl

/-- The last point of a half keeps the other factor's weights. -/
theorem keep_C_1 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : cond0_1 i)
    (x0 : Vec Ideal S512x1024 .bf16) (x1 : Vec Ideal S512x1024 .bf16) (x2 : Vec Ideal S2x512x704 .bf16) (x3 : Vec Ideal S2x512x704 .bf16) (xs0 : Vec Ideal S2x1024x704 .bf16) (xs1 : Vec Ideal S2x1024x704 .bf16) (xs2 : Vec Ideal S2x704x1024 .bf16) (xs3 : Vec Ideal S2x704x1024 .f32) (xs4 : Vec Ideal S2x704x1024 .f32) (xs5 : Vec Ideal S2x704x1024 .f32) (fh0 : HbBuf0 (F := Ideal) c hbM0_0) (fh1 : HbBuf0 (F := Ideal) c hbM0_1) :
    sout0_C_1 (F := Ideal) c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 = xs1 := by
  rfl

set_option maxHeartbeats 2000000 in
/-- The first point of a half starts the sum of the gradient of the gate's weights. -/
theorem acc_A_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : cond0_0 i) (hc1 : ¬cond0_1 i)
    (x0 : Vec Ideal S512x1024 .bf16) (x1 : Vec Ideal S512x1024 .bf16) (x2 : Vec Ideal S2x512x704 .bf16) (x3 : Vec Ideal S2x512x704 .bf16) (fh0 : HbBuf0 (F := Ideal) c hbM0_0) (fh1 : HbBuf0 (F := Ideal) c hbM0_1)
    (w2 : Vec Ideal S2x704x1024 .bf16) (hw2 : sout0_A_2 (F := Ideal) c i arg2 harg2 arg3 harg3 arg4 harg4 arg5 harg5 arg8 harg8 arg11 harg11 arg12 harg12 arg13 harg13 arg14 harg14 arg15 harg15 arg16 harg16 hc0 hc1 x0 x1 x2 x3 fh0 fh1 = w2) (b : Fin 2) (r : Fin 704) (d : Fin 1024) :
    sout0_A_3 (F := Ideal) c i arg2 harg2 arg3 harg3 arg4 harg4 arg5 harg5 arg8 harg8 arg11 harg11 arg12 harg12 arg13 harg13 arg14 harg14 arg15 harg15 arg16 harg16 hc0 hc1 x0 x1 x2 x3 fh0 fh1 (ix3 b r d) = addG x0 x1 x2 x3 w2 b r d := by
  frame_out at hw2
  rw [canon_whole] at hw2
  frame_open
  simp (disch := decide) only [↓ View.readCov_skip, ↓ View.readCov_cons_toLoadRect, ↓ View.readCov_fill, ↓ readCov_whole, ↓ canon_whole]
  frame_out
  simp only [hw2]
  fin_cases b
  · refine (canon_zero _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl
  · refine (canon_one _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl

set_option maxHeartbeats 2000000 in
/-- The first point of a half starts the sum of the gradient of the other factor's weights. -/
theorem acc_A_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : cond0_0 i) (hc1 : ¬cond0_1 i)
    (x0 : Vec Ideal S512x1024 .bf16) (x1 : Vec Ideal S512x1024 .bf16) (x2 : Vec Ideal S2x512x704 .bf16) (x3 : Vec Ideal S2x512x704 .bf16) (fh0 : HbBuf0 (F := Ideal) c hbM0_0) (fh1 : HbBuf0 (F := Ideal) c hbM0_1)
    (w2 : Vec Ideal S2x704x1024 .bf16) (hw2 : sout0_A_2 (F := Ideal) c i arg2 harg2 arg3 harg3 arg4 harg4 arg5 harg5 arg8 harg8 arg11 harg11 arg12 harg12 arg13 harg13 arg14 harg14 arg15 harg15 arg16 harg16 hc0 hc1 x0 x1 x2 x3 fh0 fh1 = w2) (b : Fin 2) (r : Fin 704) (d : Fin 1024) :
    sout0_A_4 (F := Ideal) c i arg2 harg2 arg3 harg3 arg4 harg4 arg5 harg5 arg8 harg8 arg11 harg11 arg12 harg12 arg13 harg13 arg14 harg14 arg15 harg15 arg16 harg16 hc0 hc1 x0 x1 x2 x3 fh0 fh1 (ix3 b r d) = addU x0 x1 x2 w2 b r d := by
  frame_out at hw2
  rw [canon_whole] at hw2
  frame_open
  simp (disch := decide) only [↓ View.readCov_skip, ↓ View.readCov_cons_toLoadRect, ↓ View.readCov_fill, ↓ readCov_whole, ↓ canon_whole]
  frame_out
  simp only [hw2]
  fin_cases b
  · refine (canon_zero _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl
  · refine (canon_one _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl

set_option maxHeartbeats 2000000 in
/-- The first point of a half starts the sum of the gradient of the last product's weights. -/
theorem acc_A_5 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : cond0_0 i) (hc1 : ¬cond0_1 i)
    (x0 : Vec Ideal S512x1024 .bf16) (x1 : Vec Ideal S512x1024 .bf16) (x2 : Vec Ideal S2x512x704 .bf16) (x3 : Vec Ideal S2x512x704 .bf16) (fh0 : HbBuf0 (F := Ideal) c hbM0_0) (fh1 : HbBuf0 (F := Ideal) c hbM0_1) (b : Fin 2) (r : Fin 704) (d : Fin 1024) :
    sout0_A_5 (F := Ideal) c i arg2 harg2 arg3 harg3 arg4 harg4 arg5 harg5 arg8 harg8 arg11 harg11 arg12 harg12 arg13 harg13 arg14 harg14 arg15 harg15 arg16 harg16 hc0 hc1 x0 x1 x2 x3 fh0 fh1 (ix3 b r d) = addD x1 x2 x3 b r d := by
  frame_open
  simp (disch := decide) only [↓ View.readCov_skip, ↓ View.readCov_cons_toLoadRect, ↓ View.readCov_fill, ↓ readCov_whole, ↓ canon_whole]
  frame_out
  fin_cases b
  · refine (canon_zero _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl
  · refine (canon_one _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl

set_option maxHeartbeats 2000000 in
/-- The first point of a half leaves the gradient of its tokens in the output block. -/
theorem tok_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : cond0_0 i) (hc1 : ¬cond0_1 i)
    (x0 : Vec Ideal S512x1024 .bf16) (x1 : Vec Ideal S512x1024 .bf16) (x2 : Vec Ideal S2x512x704 .bf16) (x3 : Vec Ideal S2x512x704 .bf16) (fh0 : HbBuf0 (F := Ideal) c hbM0_0) (fh1 : HbBuf0 (F := Ideal) c hbM0_1)
    (w0 : Vec Ideal S2x1024x704 .bf16) (hw0 : sout0_A_0 (F := Ideal) c i arg2 harg2 arg3 harg3 arg4 harg4 arg5 harg5 arg8 harg8 arg11 harg11 arg12 harg12 arg13 harg13 arg14 harg14 arg15 harg15 arg16 harg16 hc0 hc1 x0 x1 x2 x3 fh0 fh1 = w0)
    (w1 : Vec Ideal S2x1024x704 .bf16) (hw1 : sout0_A_1 (F := Ideal) c i arg2 harg2 arg3 harg3 arg4 harg4 arg5 harg5 arg8 harg8 arg11 harg11 arg12 harg12 arg13 harg13 arg14 harg14 arg15 harg15 arg16 harg16 hc0 hc1 x0 x1 x2 x3 fh0 fh1 = w1)
    (w2 : Vec Ideal S2x704x1024 .bf16) (hw2 : sout0_A_2 (F := Ideal) c i arg2 harg2 arg3 harg3 arg4 harg4 arg5 harg5 arg8 harg8 arg11 harg11 arg12 harg12 arg13 harg13 arg14 harg14 arg15 harg15 arg16 harg16 hc0 hc1 x0 x1 x2 x3 fh0 fh1 = w2) (s : Fin 512) (d : Fin 1024) :
    out0_A_4 (F := Ideal) c i arg2 harg2 arg3 harg3 arg4 harg4 arg5 harg5 arg8 harg8 arg11 harg11 arg12 harg12 arg13 harg13 arg14 harg14 arg15 harg15 arg16 harg16 hc0 hc1 x0 x1 x2 x3 fh0 fh1 (ix3 (0 : Fin 1) s d) = tok x1 x2 x3 w0 w1 w2 s d := by
  frame_out at hw0
  rw [canon_whole] at hw0
  frame_out at hw1
  rw [canon_whole] at hw1
  frame_out at hw2
  rw [canon_whole] at hw2
  frame_open
  simp (disch := decide) only [↓ View.readCov_skip, ↓ View.readCov_cons_toLoadRect, ↓ View.readCov_fill, ↓ readCov_whole, ↓ canon_whole]
  frame_out
  simp only [hw0, hw1, hw2]
  pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
  rfl

set_option maxHeartbeats 2000000 in
/-- A point inside a half adds its share of the gradient of the gate's weights. -/
theorem acc_B_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec Ideal S512x1024 .bf16) (x1 : Vec Ideal S512x1024 .bf16) (x2 : Vec Ideal S2x512x704 .bf16) (x3 : Vec Ideal S2x512x704 .bf16) (xs0 : Vec Ideal S2x1024x704 .bf16) (xs1 : Vec Ideal S2x1024x704 .bf16) (xs2 : Vec Ideal S2x704x1024 .bf16) (xs3 : Vec Ideal S2x704x1024 .f32) (xs4 : Vec Ideal S2x704x1024 .f32) (xs5 : Vec Ideal S2x704x1024 .f32) (fh0 : HbBuf0 (F := Ideal) c hbM0_0) (fh1 : HbBuf0 (F := Ideal) c hbM0_1) (b : Fin 2) (r : Fin 704) (d : Fin 1024) :
    sout0_B_3 (F := Ideal) c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 (ix3 b r d) = xs3 (ix3 b r d) + addG x0 x1 x2 x3 xs2 b r d := by
  frame_open
  simp (disch := decide) only [↓ View.readCov_skip, ↓ View.readCov_cons_toLoadRect, ↓ View.readCov_fill, ↓ readCov_whole, ↓ canon_whole]
  frame_out
  fin_cases b
  · refine (canon_zero _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl
  · refine (canon_one _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl

set_option maxHeartbeats 2000000 in
/-- A point inside a half adds its share of the gradient of the other factor's weights. -/
theorem acc_B_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec Ideal S512x1024 .bf16) (x1 : Vec Ideal S512x1024 .bf16) (x2 : Vec Ideal S2x512x704 .bf16) (x3 : Vec Ideal S2x512x704 .bf16) (xs0 : Vec Ideal S2x1024x704 .bf16) (xs1 : Vec Ideal S2x1024x704 .bf16) (xs2 : Vec Ideal S2x704x1024 .bf16) (xs3 : Vec Ideal S2x704x1024 .f32) (xs4 : Vec Ideal S2x704x1024 .f32) (xs5 : Vec Ideal S2x704x1024 .f32) (fh0 : HbBuf0 (F := Ideal) c hbM0_0) (fh1 : HbBuf0 (F := Ideal) c hbM0_1) (b : Fin 2) (r : Fin 704) (d : Fin 1024) :
    sout0_B_4 (F := Ideal) c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 (ix3 b r d) = xs4 (ix3 b r d) + addU x0 x1 x2 xs2 b r d := by
  frame_open
  simp (disch := decide) only [↓ View.readCov_skip, ↓ View.readCov_cons_toLoadRect, ↓ View.readCov_fill, ↓ readCov_whole, ↓ canon_whole]
  frame_out
  fin_cases b
  · refine (canon_zero _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl
  · refine (canon_one _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl

set_option maxHeartbeats 2000000 in
/-- A point inside a half adds its share of the gradient of the last product's weights. -/
theorem acc_B_5 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec Ideal S512x1024 .bf16) (x1 : Vec Ideal S512x1024 .bf16) (x2 : Vec Ideal S2x512x704 .bf16) (x3 : Vec Ideal S2x512x704 .bf16) (xs0 : Vec Ideal S2x1024x704 .bf16) (xs1 : Vec Ideal S2x1024x704 .bf16) (xs2 : Vec Ideal S2x704x1024 .bf16) (xs3 : Vec Ideal S2x704x1024 .f32) (xs4 : Vec Ideal S2x704x1024 .f32) (xs5 : Vec Ideal S2x704x1024 .f32) (fh0 : HbBuf0 (F := Ideal) c hbM0_0) (fh1 : HbBuf0 (F := Ideal) c hbM0_1) (b : Fin 2) (r : Fin 704) (d : Fin 1024) :
    sout0_B_5 (F := Ideal) c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 (ix3 b r d) = xs5 (ix3 b r d) + addD x1 x2 x3 b r d := by
  frame_open
  simp (disch := decide) only [↓ View.readCov_skip, ↓ View.readCov_cons_toLoadRect, ↓ View.readCov_fill, ↓ readCov_whole, ↓ canon_whole]
  frame_out
  fin_cases b
  · refine (canon_zero _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl
  · refine (canon_one _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl

set_option maxHeartbeats 2000000 in
/-- A point inside a half leaves the gradient of its tokens in the output block. -/
theorem tok_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec Ideal S512x1024 .bf16) (x1 : Vec Ideal S512x1024 .bf16) (x2 : Vec Ideal S2x512x704 .bf16) (x3 : Vec Ideal S2x512x704 .bf16) (xs0 : Vec Ideal S2x1024x704 .bf16) (xs1 : Vec Ideal S2x1024x704 .bf16) (xs2 : Vec Ideal S2x704x1024 .bf16) (xs3 : Vec Ideal S2x704x1024 .f32) (xs4 : Vec Ideal S2x704x1024 .f32) (xs5 : Vec Ideal S2x704x1024 .f32) (fh0 : HbBuf0 (F := Ideal) c hbM0_0) (fh1 : HbBuf0 (F := Ideal) c hbM0_1) (s : Fin 512) (d : Fin 1024) :
    out0_B_4 (F := Ideal) c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 (ix3 (0 : Fin 1) s d) = tok x1 x2 x3 xs0 xs1 xs2 s d := by
  frame_open
  simp (disch := decide) only [↓ View.readCov_skip, ↓ View.readCov_cons_toLoadRect, ↓ View.readCov_fill, ↓ readCov_whole, ↓ canon_whole]
  frame_out
  pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
  rfl

set_option maxHeartbeats 2000000 in
/-- The last point of a half adds its share of the gradient of the gate's weights. -/
theorem acc_C_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : cond0_1 i)
    (x0 : Vec Ideal S512x1024 .bf16) (x1 : Vec Ideal S512x1024 .bf16) (x2 : Vec Ideal S2x512x704 .bf16) (x3 : Vec Ideal S2x512x704 .bf16) (xs0 : Vec Ideal S2x1024x704 .bf16) (xs1 : Vec Ideal S2x1024x704 .bf16) (xs2 : Vec Ideal S2x704x1024 .bf16) (xs3 : Vec Ideal S2x704x1024 .f32) (xs4 : Vec Ideal S2x704x1024 .f32) (xs5 : Vec Ideal S2x704x1024 .f32) (fh0 : HbBuf0 (F := Ideal) c hbM0_0) (fh1 : HbBuf0 (F := Ideal) c hbM0_1) (b : Fin 2) (r : Fin 704) (d : Fin 1024) :
    sout0_C_3 (F := Ideal) c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 (ix3 b r d) = xs3 (ix3 b r d) + addG x0 x1 x2 x3 xs2 b r d := by
  frame_open
  simp (disch := decide) only [↓ View.readCov_skip, ↓ View.readCov_cons_toLoadRect, ↓ View.readCov_fill, ↓ readCov_whole, ↓ canon_whole]
  frame_out
  fin_cases b
  · refine (canon_zero _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl
  · refine (canon_one _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl

set_option maxHeartbeats 2000000 in
/-- The last point of a half adds its share of the gradient of the other factor's weights. -/
theorem acc_C_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : cond0_1 i)
    (x0 : Vec Ideal S512x1024 .bf16) (x1 : Vec Ideal S512x1024 .bf16) (x2 : Vec Ideal S2x512x704 .bf16) (x3 : Vec Ideal S2x512x704 .bf16) (xs0 : Vec Ideal S2x1024x704 .bf16) (xs1 : Vec Ideal S2x1024x704 .bf16) (xs2 : Vec Ideal S2x704x1024 .bf16) (xs3 : Vec Ideal S2x704x1024 .f32) (xs4 : Vec Ideal S2x704x1024 .f32) (xs5 : Vec Ideal S2x704x1024 .f32) (fh0 : HbBuf0 (F := Ideal) c hbM0_0) (fh1 : HbBuf0 (F := Ideal) c hbM0_1) (b : Fin 2) (r : Fin 704) (d : Fin 1024) :
    sout0_C_4 (F := Ideal) c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 (ix3 b r d) = xs4 (ix3 b r d) + addU x0 x1 x2 xs2 b r d := by
  frame_open
  simp (disch := decide) only [↓ View.readCov_skip, ↓ View.readCov_cons_toLoadRect, ↓ View.readCov_fill, ↓ readCov_whole, ↓ canon_whole]
  frame_out
  fin_cases b
  · refine (canon_zero _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl
  · refine (canon_one _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl

set_option maxHeartbeats 2000000 in
/-- The last point of a half adds its share of the gradient of the last product's weights. -/
theorem acc_C_5 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : cond0_1 i)
    (x0 : Vec Ideal S512x1024 .bf16) (x1 : Vec Ideal S512x1024 .bf16) (x2 : Vec Ideal S2x512x704 .bf16) (x3 : Vec Ideal S2x512x704 .bf16) (xs0 : Vec Ideal S2x1024x704 .bf16) (xs1 : Vec Ideal S2x1024x704 .bf16) (xs2 : Vec Ideal S2x704x1024 .bf16) (xs3 : Vec Ideal S2x704x1024 .f32) (xs4 : Vec Ideal S2x704x1024 .f32) (xs5 : Vec Ideal S2x704x1024 .f32) (fh0 : HbBuf0 (F := Ideal) c hbM0_0) (fh1 : HbBuf0 (F := Ideal) c hbM0_1) (b : Fin 2) (r : Fin 704) (d : Fin 1024) :
    sout0_C_5 (F := Ideal) c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 (ix3 b r d) = xs5 (ix3 b r d) + addD x1 x2 x3 b r d := by
  frame_open
  simp (disch := decide) only [↓ View.readCov_skip, ↓ View.readCov_cons_toLoadRect, ↓ View.readCov_fill, ↓ readCov_whole, ↓ canon_whole]
  frame_out
  fin_cases b
  · refine (canon_zero _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl
  · refine (canon_one _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    rfl

set_option maxHeartbeats 2000000 in
/-- The last point of a half leaves the gradient of its tokens in the output block. -/
theorem tok_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : cond0_1 i)
    (x0 : Vec Ideal S512x1024 .bf16) (x1 : Vec Ideal S512x1024 .bf16) (x2 : Vec Ideal S2x512x704 .bf16) (x3 : Vec Ideal S2x512x704 .bf16) (xs0 : Vec Ideal S2x1024x704 .bf16) (xs1 : Vec Ideal S2x1024x704 .bf16) (xs2 : Vec Ideal S2x704x1024 .bf16) (xs3 : Vec Ideal S2x704x1024 .f32) (xs4 : Vec Ideal S2x704x1024 .f32) (xs5 : Vec Ideal S2x704x1024 .f32) (fh0 : HbBuf0 (F := Ideal) c hbM0_0) (fh1 : HbBuf0 (F := Ideal) c hbM0_1) (s : Fin 512) (d : Fin 1024) :
    out0_C_4 (F := Ideal) c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 (ix3 (0 : Fin 1) s d) = tok x1 x2 x3 xs0 xs1 xs2 s d := by
  frame_open
  simp (disch := decide) only [↓ View.readCov_skip, ↓ View.readCov_cons_toLoadRect, ↓ View.readCov_fill, ↓ readCov_whole, ↓ canon_whole]
  frame_out
  pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
  rfl

end Cert.KernelIdeal.Body
-- ==== Proof.Host.lean ====
/-
The arrays that the host prepares for the launch, read one element at a time over extended reals: the tokens and the
incoming gradient as they are, the gate's inputs and the other factors by blocks of hidden columns, and the weights.
-/
module

public import proofs.«01_k».proof.Proof.Gen.KernelIdeal.Frame
public import proofs.«01_k».proof.Proof.Spec
public import Idealize.ShloMosaic.Lib.StableHlo.RunRead
public import Idealize.ShloMosaic.Lib.Pipeline.ValueKit
public import Idealize.ShloMosaic.Lib.ValueIdx
public import Idealize.ShloMosaic.Lib.IdealHost

@[expose] public section

set_option maxRecDepth 16384

noncomputable section

namespace Cert.KernelIdeal.Host

open Cert.KernelIdeal Cert.KernelIdeal.Gen Idealize.ShloMosaic Idealize.ShloMosaic.TcCoe Idealize.SL.Sem Cert.Ffn

variable (m : (ℓ : Loc nD τ sig) → Buf (Elt Ideal) ℓ) (c : Dev nD)

/-- The tokens. -/
def H (s : Fin 16384) (d : Fin 1024) : EReal := m ((c : Thread nD τ).loc main_arg0) (ix2 s d)

/-- The gate's weights. -/
def Wg (d : Fin 1024) (f : Fin 2816) : EReal := m ((c : Thread nD τ).loc main_arg1) (ix2 d f)

/-- The other factor's weights. -/
def Wu (d : Fin 1024) (f : Fin 2816) : EReal := m ((c : Thread nD τ).loc main_arg2) (ix2 d f)

/-- The last product's weights. -/
def Wd (f : Fin 2816) (d : Fin 1024) : EReal := m ((c : Thread nD τ).loc main_arg3) (ix2 f d)

/-- The incoming gradient. -/
def Do (s : Fin 16384) (d : Fin 1024) : EReal := m ((c : Thread nD τ).loc main_arg4) (ix2 s d)

/-- The launch finds the tokens. -/
theorem tokens (s : Fin 16384) (d : Fin 1024) : V m c main_v10 (ix2 s d) = H m c s d := by
  unfold V
  after_reads_simp
  pointwise
  rfl

/-- The launch finds the incoming gradient. -/
theorem incoming (s : Fin 16384) (d : Fin 1024) : V m c main_v11 (ix2 s d) = Do m c s d := by
  unfold V
  after_reads_simp
  pointwise
  rfl

/-- The launch finds the gate's inputs, by blocks of hidden columns. -/
theorem gates (n : Fin 4) (s : Fin 16384) (f : Fin 704) : V m c main_v14 (ix3 n s f) = proj (H m c) (Wg m c) s (col n f) := by
  unfold V
  after_reads_simp
  pointwise
  rfl

/-- The launch finds the other factors, by blocks of hidden columns. -/
theorem factors (n : Fin 4) (s : Fin 16384) (f : Fin 704) : V m c main_v17 (ix3 n s f) = proj (H m c) (Wu m c) s (col n f) := by
  unfold V
  after_reads_simp
  pointwise
  rfl

/-- The launch finds the gate's weights in the upper half of the first weight array. -/
theorem gateWeights (n : Fin 4) (d : Fin 1024) (f : Fin 704) :
    V m c main_v5 (ix3 n (⟨d.val, by omega⟩ : Fin 2048) f) = Wg m c d (col n f) := by
  unfold V
  after_reads_simp
  pointwise
  after_reads_simp
  rfl

/-- The launch finds the other factor's weights in the lower half of the first weight array. -/
theorem factorWeights (n : Fin 4) (d : Fin 1024) (f : Fin 704) :
    V m c main_v5 (ix3 n (⟨1024 + d.val, by omega⟩ : Fin 2048) f) = Wu m c d (col n f) := by
  unfold V
  after_reads_simp
  pointwise
  after_reads_simp
  rfl

/-- The launch finds the last product's weights below the first 1024 rows of the second weight array. -/
theorem lastWeights (n : Fin 4) (f : Fin 704) (d : Fin 1024) :
    V m c main_v9 (ix3 n (⟨1024 + f.val, by omega⟩ : Fin 1728) d) = Wd m c (col n f) d := by
  unfold V
  after_reads_simp
  pointwise
  after_reads_simp
  pointwise
  rfl

end Cert.KernelIdeal.Host
-- ==== Proof.Blocks.lean ====
/-
What a grid point finds in its blocks and in the weights it copies, in terms of the arguments. Point `t` of the 64 is tile
`t % 32` of half `t / 32`: it holds 512 tokens and two of the four blocks of hidden columns.
-/
module

public import proofs.«01_k».proof.Proof.Body
public import proofs.«01_k».proof.Proof.Host

@[expose] public section

set_option maxRecDepth 16384

noncomputable section

namespace Cert.KernelIdeal.Blocks

open Cert.KernelIdeal Cert.KernelIdeal.Gen Cert.KernelIdeal.Body Cert.KernelIdeal.Host Idealize.ShloMosaic Idealize.ShloMosaic.TcCoe Idealize.SL.Sem Cert.Ffn

variable (m : (ℓ : Loc nD τ sig) → Buf (Elt Ideal) ℓ) (c : Dev nD)

theorem points (t : Fin cfg0.N) : t.val < 64 := lt_of_lt_of_eq t.isLt (show cfg0.N = 64 from N_0)

/-- The tile of tokens of a point. -/
def tile (t : Fin cfg0.N) : Fin 32 := ⟨t.val % 32, by omega⟩

/-- Block `b` of the two blocks of hidden columns of a point. -/
def block (t : Fin cfg0.N) (b : Fin 2) : Fin 4 := ⟨2 * (t.val / 32) + b.val, by have := points t; omega⟩

/-- The windows' blocks of a point, decided over the 64 points. -/
theorem idx : ∀ t : Fin cfg0.N, win0_0.index t = ![t.val % 32, 0] ∧ win0_1.index t = ![t.val % 32, 0]
    ∧ win0_2.index t = ![t.val / 32, t.val % 32, 0] ∧ win0_3.index t = ![t.val / 32, t.val % 32, 0] ∧ win0_4.index t = ![t.val / 32, t.val % 32, 0] :=
  (by decide +kernel : ∀ t : Fin grid0.N, win0_0.index t = ![t.val % 32, 0] ∧ win0_1.index t = ![t.val % 32, 0]
    ∧ win0_2.index t = ![t.val / 32, t.val % 32, 0] ∧ win0_3.index t = ![t.val / 32, t.val % 32, 0] ∧ win0_4.index t = ![t.val / 32, t.val % 32, 0])

/-- The offsets of the copies of a point, decided over the 64 points. -/
theorem offs : ∀ t : Fin cfg0.N, k0_off1 (grid0.coords t) = ![2 * (t.val / 32), 0, 0] ∧ k0_off2 (grid0.coords t) = ![2 * (t.val / 32), 1024, 0]
    ∧ k0_off3 (grid0.coords t) = ![2 * (t.val / 32), 1024, 0] ∧ k0_off4 (grid0.coords t) = ![2 * (t.val / 32), 0, 0]
    ∧ k0_off5 (grid0.coords t) = ![2 * (t.val / 32), 704, 0] ∧ k0_off6 (grid0.coords t) = ![2 * (t.val / 32), 0, 0] :=
  (by decide +kernel : ∀ t : Fin grid0.N, k0_off1 (grid0.coords t) = ![2 * (t.val / 32), 0, 0] ∧ k0_off2 (grid0.coords t) = ![2 * (t.val / 32), 1024, 0]
    ∧ k0_off3 (grid0.coords t) = ![2 * (t.val / 32), 1024, 0] ∧ k0_off4 (grid0.coords t) = ![2 * (t.val / 32), 0, 0]
    ∧ k0_off5 (grid0.coords t) = ![2 * (t.val / 32), 704, 0] ∧ k0_off6 (grid0.coords t) = ![2 * (t.val / 32), 0, 0])

/-- A point finds its tile of the tokens. -/
theorem blk0 (t : Fin cfg0.N) (s : Fin 512) (d : Fin 1024) : iblk m c 0 t (ix2 s d) = H m c (row (tile t) s) d := by
  rw [← tokens]
  blk_ext [iblk, (idx t).1, tile]

/-- A point finds its tile of the incoming gradient. -/
theorem blk1 (t : Fin cfg0.N) (s : Fin 512) (d : Fin 1024) : iblk m c 1 t (ix2 s d) = Do m c (row (tile t) s) d := by
  rw [← incoming]
  blk_ext [iblk, (idx t).2.1, tile]

/-- A point finds the gate's inputs of its tokens in its columns. -/
theorem blk2 (t : Fin cfg0.N) (b : Fin 2) (s : Fin 512) (f : Fin 704) :
    iblk m c 2 t (ix3 b s f) = proj (H m c) (Wg m c) (row (tile t) s) (col (block t b) f) := by
  rw [← gates]
  blk_ext [iblk, (idx t).2.2.1, tile, block]

/-- A point finds the other factors of its tokens in its columns. -/
theorem blk3 (t : Fin cfg0.N) (b : Fin 2) (s : Fin 512) (f : Fin 704) :
    iblk m c 3 t (ix3 b s f) = proj (H m c) (Wu m c) (row (tile t) s) (col (block t b) f) := by
  rw [← factors]
  blk_ext [iblk, (idx t).2.2.2.1, tile, block]

end Cert.KernelIdeal.Blocks
-- ==== Proof.Load.lean ====
/-
The weights that the first point of a half copies into its scratch: the four weight matrices in the columns of its two
blocks.
-/
module

public import proofs.«01_k».proof.Proof.Blocks

@[expose] public section
set_option maxRecDepth 16384
noncomputable section
namespace Cert.KernelIdeal.Blocks
open Cert.KernelIdeal Cert.KernelIdeal.Gen Cert.KernelIdeal.Body Cert.KernelIdeal.Host Idealize.ShloMosaic Idealize.ShloMosaic.TcCoe Idealize.SL.Sem Cert.Ffn

/-- A read of part of an array finds, at an index of the part, what the array holds there. -/
theorem get_part (b : Ref sig .tc) (off size : Fin b.ty.shape.rank → Nat) (inb : ∀ a, off a + size a ≤ b.ty.shape.size a)
    (f : b.ty.Contents (Elt Ideal)) (j : (Rect.unit off size inb).shape.Idx) (i : b.ty.shape.Idx)
    (o : Fin b.ty.shape.rank → Nat) (ho : off = o) (hi : ∀ a, (i a).val = o a + (j a).val) :
    View.read (Elt Ideal) ((View.whole b).slice (Rect.unit off size inb)) f j = f i := by
  subst ho
  refine congrArg f (funext fun a => Fin.ext ?_)
  rw [View.emb_slice, Function.Embedding.trans_apply, View.emb_whole, Function.Embedding.refl_apply, Rect.emb_apply, hi a]
  show off a + 1 * (j a).val = _
  omega

variable (m : (ℓ : Loc nD τ sig) → Buf (Elt Ideal) ℓ) (c : Dev nD)

/-- The first point of a half copies in the gate's weights. -/
theorem load_gate (t : Fin cfg0.N) (h0 : t.val % 32 = 0) (h1 : ¬t.val % 32 = 31) (b : Fin 2) (d : Fin 1024) (f : Fin 704) :
    (outsAt0 m c t.val t.isLt).2.1 (ix3 b d f) = Wg m c d (col (block t b) f) := by
  rw [outsAt0_A m c t h0 h1]
  dsimp only
  frame_out
  rw [canon_whole]
  refine (get_part main_v5 _ _ _ _ (ix3 b d f) (ix3 (block t b) (⟨d.val, by omega⟩ : Fin 2048) f) _ (offs t).1 fun a => ?_).trans (gateWeights m c (block t b) d f)
  match a with
  | ⟨0, _⟩ => rfl
  | ⟨1, _⟩ => exact (Nat.zero_add _).symm
  | ⟨2, _⟩ => exact (Nat.zero_add _).symm

/-- The first point of a half copies in the other factor's weights. -/
theorem load_factor (t : Fin cfg0.N) (h0 : t.val % 32 = 0) (h1 : ¬t.val % 32 = 31) (b : Fin 2) (d : Fin 1024) (f : Fin 704) :
    (outsAt0 m c t.val t.isLt).2.2.1 (ix3 b d f) = Wu m c d (col (block t b) f) := by
  rw [outsAt0_A m c t h0 h1]
  dsimp only
  frame_out
  rw [canon_whole]
  refine (get_part main_v5 _ _ _ _ (ix3 b d f) (ix3 (block t b) (⟨1024 + d.val, by omega⟩ : Fin 2048) f) _ (offs t).2.1 fun a => ?_).trans (factorWeights m c (block t b) d f)
  match a with
  | ⟨0, _⟩ => rfl
  | ⟨1, _⟩ => rfl
  | ⟨2, _⟩ => exact (Nat.zero_add _).symm

/-- The first point of a half copies in the last product's weights. -/
theorem load_last (t : Fin cfg0.N) (h0 : t.val % 32 = 0) (h1 : ¬t.val % 32 = 31) (b : Fin 2) (f : Fin 704) (d : Fin 1024) :
    (outsAt0 m c t.val t.isLt).2.2.2.1 (ix3 b f d) = Wd m c (col (block t b) f) d := by
  rw [outsAt0_A m c t h0 h1]
  dsimp only
  frame_out
  rw [canon_whole]
  refine (get_part main_v9 _ _ _ _ (ix3 b f d) (ix3 (block t b) (⟨1024 + f.val, by omega⟩ : Fin 1728) d) _ (offs t).2.2.1 fun a => ?_).trans (lastWeights m c (block t b) f d)
  match a with
  | ⟨0, _⟩ => rfl
  | ⟨1, _⟩ => rfl
  | ⟨2, _⟩ => exact (Nat.zero_add _).symm

end Cert.KernelIdeal.Blocks
-- ==== Proof.Points.lean ====
/-
The points of the grid, one after the other: inside a half the scratch holds the weights of the half's two blocks and the
sums of the gradients over the tiles walked so far, and each point leaves the gradient of its tile's tokens through its half.
-/
module

public import proofs.«01_k».proof.Proof.Load

@[expose] public section
set_option maxRecDepth 16384
noncomputable section
namespace Cert.KernelIdeal.Blocks
open Cert.KernelIdeal Cert.KernelIdeal.Gen Cert.KernelIdeal.Body Cert.KernelIdeal.Host Idealize.ShloMosaic Idealize.ShloMosaic.TcCoe Idealize.SL.Sem Cert.Ffn

variable (m : (ℓ : Loc nD τ sig) → Buf (Elt Ideal) ℓ) (c : Dev nD)

/-- A tile's share of the gradient of the gate's weights. -/
def partG (n : Fin 4) (r : Fin 704) (d : Fin 1024) (i : Fin 32) : EReal :=
  ∑ s : Fin 512, dgate (H m c) (Wg m c) (Wu m c) (Wd m c) (Do m c) (row i s) (col n r) * H m c (row i s) d

/-- A tile's share of the gradient of the other factor's weights. -/
def partU (n : Fin 4) (r : Fin 704) (d : Fin 1024) (i : Fin 32) : EReal :=
  ∑ s : Fin 512, dup (H m c) (Wg m c) (Wd m c) (Do m c) (row i s) (col n r) * H m c (row i s) d

/-- A tile's share of the gradient of the last product's weights. -/
def partD (n : Fin 4) (r : Fin 704) (d : Fin 1024) (i : Fin 32) : EReal :=
  ∑ s : Fin 512, actAt (proj (H m c) (Wg m c) (row i s) (col n r)) (proj (H m c) (Wu m c) (row i s) (col n r)) * Do m c (row i s) d

/-- The half of a point. -/
def half (t : Fin cfg0.N) : Fin 2 := ⟨t.val / 32, by have := points t; omega⟩

/-- The scratch holds the last product's weights of the point's blocks. -/
def HasWd (t : Fin cfg0.N) (w : Vec Ideal S2x704x1024 .bf16) : Prop :=
  ∀ (b : Fin 2) (f : Fin 704) (d : Fin 1024), w (ix3 b f d) = Wd m c (col (block t b) f) d

/-- The scratch holds the gate's weights of the point's blocks. -/
def HasWg (t : Fin cfg0.N) (w : Vec Ideal S2x1024x704 .bf16) : Prop :=
  ∀ (b : Fin 2) (d : Fin 1024) (f : Fin 704), w (ix3 b d f) = Wg m c d (col (block t b) f)

/-- The scratch holds the other factor's weights of the point's blocks. -/
def HasWu (t : Fin cfg0.N) (w : Vec Ideal S2x1024x704 .bf16) : Prop :=
  ∀ (b : Fin 2) (d : Fin 1024) (f : Fin 704), w (ix3 b d f) = Wu m c d (col (block t b) f)

section

variable {m c} {t : Fin cfg0.N} {w : Vec Ideal S2x704x1024 .bf16}

theorem da_eq (hw : HasWd m c t w) (b : Fin 2) (s : Fin 512) (f : Fin 704) :
    da (iblk m c 1 t) w b s f = dact (Wd m c) (Do m c) (row (tile t) s) (col (block t b) f) :=
  Finset.sum_congr rfl fun d _ => by rw [blk1, hw]

theorem dg_eq (hw : HasWd m c t w) (b : Fin 2) (s : Fin 512) (f : Fin 704) :
    dg (iblk m c 1 t) (iblk m c 2 t) (iblk m c 3 t) w b s f
      = dgate (H m c) (Wg m c) (Wu m c) (Wd m c) (Do m c) (row (tile t) s) (col (block t b) f) := by
  rw [dg, blk2, blk3, da_eq hw, dgate]

theorem du_eq (hw : HasWd m c t w) (b : Fin 2) (s : Fin 512) (f : Fin 704) :
    du (iblk m c 1 t) (iblk m c 2 t) w b s f = dup (H m c) (Wg m c) (Wd m c) (Do m c) (row (tile t) s) (col (block t b) f) := by
  rw [du, blk2, da_eq hw, dup]

/-- With the last product's weights in the scratch, a point's share of the gate's weights is its tile's. -/
theorem addG_eq (hw : HasWd m c t w) (b : Fin 2) (r : Fin 704) (d : Fin 1024) :
    addG (iblk m c 0 t) (iblk m c 1 t) (iblk m c 2 t) (iblk m c 3 t) w b r d = partG m c (block t b) r d (tile t) :=
  Finset.sum_congr rfl fun s _ => by rw [dg_eq hw, blk0]

/-- With the last product's weights in the scratch, a point's share of the other factor's weights is its tile's. -/
theorem addU_eq (hw : HasWd m c t w) (b : Fin 2) (r : Fin 704) (d : Fin 1024) :
    addU (iblk m c 0 t) (iblk m c 1 t) (iblk m c 2 t) w b r d = partU m c (block t b) r d (tile t) :=
  Finset.sum_congr rfl fun s _ => by rw [du_eq hw, blk0]

/-- A point's share of the last product's weights is its tile's. -/
theorem addD_eq (b : Fin 2) (r : Fin 704) (d : Fin 1024) :
    addD (iblk m c 1 t) (iblk m c 2 t) (iblk m c 3 t) b r d = partD m c (block t b) r d (tile t) :=
  Finset.sum_congr rfl fun s _ => by rw [blk1, blk2, blk3]

/-- With the weights in the scratch, a point leaves the gradient of its tile's tokens through its half. -/
theorem tok_eq {wg wu : Vec Ideal S2x1024x704 .bf16} (hg : HasWg m c t wg) (hu : HasWu m c t wu) (hw : HasWd m c t w) (s : Fin 512) (d : Fin 1024) :
    tok (iblk m c 1 t) (iblk m c 2 t) (iblk m c 3 t) wg wu w s d
      = dTok (H m c) (Wg m c) (Wu m c) (Wd m c) (Do m c) (half t) (row (tile t) s) d := by
  simp only [tok, dg_eq hw, du_eq hw, hg _ _ _, hu _ _ _]
  rfl

end

/-- What the scratch holds after a point that is not the last of its half. -/
structure Inv (t : Fin cfg0.N) : Prop where
  wg : HasWg m c t (outsAt0 m c t.val t.isLt).2.1
  wu : HasWu m c t (outsAt0 m c t.val t.isLt).2.2.1
  wd : HasWd m c t (outsAt0 m c t.val t.isLt).2.2.2.1
  g : ∀ (b : Fin 2) (r : Fin 704) (d : Fin 1024), (outsAt0 m c t.val t.isLt).2.2.2.2.1 (ix3 b r d) = upTo (partG m c (block t b) r d) (t.val % 32 + 1)
  u : ∀ (b : Fin 2) (r : Fin 704) (d : Fin 1024), (outsAt0 m c t.val t.isLt).2.2.2.2.2.1 (ix3 b r d) = upTo (partU m c (block t b) r d) (t.val % 32 + 1)
  d : ∀ (b : Fin 2) (r : Fin 704) (d : Fin 1024), (outsAt0 m c t.val t.isLt).2.2.2.2.2.2 (ix3 b r d) = upTo (partD m c (block t b) r d) (t.val % 32 + 1)

/-- The point before. -/
def prev (t : Fin cfg0.N) : Fin cfg0.N := ⟨t.val - 1, Nat.lt_of_le_of_lt (Nat.sub_le _ _) t.isLt⟩

theorem block_prev (t : Fin cfg0.N) (h0 : ¬t.val % 32 = 0) (b : Fin 2) : block (prev t) b = block t b :=
  Fin.ext (show 2 * ((t.val - 1) / 32) + b.val = 2 * (t.val / 32) + b.val by omega)

theorem prev_mod (t : Fin cfg0.N) (h0 : ¬t.val % 32 = 0) : (prev t).val % 32 + 1 = (tile t).val :=
  show (t.val - 1) % 32 + 1 = t.val % 32 by omega

variable {m c} in
/-- What the point before left is what this point finds. -/
theorem Inv.found {t : Fin cfg0.N} (h0 : ¬t.val % 32 = 0) (h : Inv m c (prev t)) :
    HasWg m c t (outsAt0 m c (prev t).val (prev t).isLt).2.1 ∧ HasWu m c t (outsAt0 m c (prev t).val (prev t).isLt).2.2.1
      ∧ HasWd m c t (outsAt0 m c (prev t).val (prev t).isLt).2.2.2.1
      ∧ (∀ (b : Fin 2) (r : Fin 704) (d : Fin 1024), (outsAt0 m c (prev t).val (prev t).isLt).2.2.2.2.1 (ix3 b r d) = upTo (partG m c (block t b) r d) (tile t).val)
      ∧ (∀ (b : Fin 2) (r : Fin 704) (d : Fin 1024), (outsAt0 m c (prev t).val (prev t).isLt).2.2.2.2.2.1 (ix3 b r d) = upTo (partU m c (block t b) r d) (tile t).val)
      ∧ (∀ (b : Fin 2) (r : Fin 704) (d : Fin 1024), (outsAt0 m c (prev t).val (prev t).isLt).2.2.2.2.2.2 (ix3 b r d) = upTo (partD m c (block t b) r d) (tile t).val) :=
  ⟨fun b d f => (h.wg b d f).trans (by rw [block_prev t h0]), fun b d f => (h.wu b d f).trans (by rw [block_prev t h0]),
    fun b f d => (h.wd b f d).trans (by rw [block_prev t h0]), fun b r d => (h.g b r d).trans (by rw [block_prev t h0, prev_mod t h0]),
    fun b r d => (h.u b r d).trans (by rw [block_prev t h0, prev_mod t h0]), fun b r d => (h.d b r d).trans (by rw [block_prev t h0, prev_mod t h0])⟩

/-- The first point of a half. -/
theorem inv_first (t : Fin cfg0.N) (h0 : t.val % 32 = 0) (h1 : ¬t.val % 32 = 31) : Inv m c t := by
  have hw : HasWd m c t _ := load_last m c t h0 h1
  have ht : tile t = 0 := Fin.ext h0
  refine ⟨load_gate m c t h0 h1, load_factor m c t h0 h1, hw, fun b r d => ?_, fun b r d => ?_, fun b r d => ?_⟩
  · rw [h0, upTo_one, ← ht, ← addG_eq hw, outsAt0_A m c t h0 h1]
    dsimp only
    rw [acc_A_3 (hw2 := rfl)]
  · rw [h0, upTo_one, ← ht, ← addU_eq hw, outsAt0_A m c t h0 h1]
    dsimp only
    rw [acc_A_4 (hw2 := rfl)]
  · rw [h0, upTo_one, ← ht, ← addD_eq, outsAt0_A m c t h0 h1]
    dsimp only
    rw [acc_A_5]

/-- A point inside a half. -/
theorem inv_next (t : Fin cfg0.N) (h0 : ¬t.val % 32 = 0) (h1 : ¬t.val % 32 = 31) (h : Inv m c (prev t)) : Inv m c t := by
  obtain ⟨hg, hu, hw, fg, fu, fd⟩ := h.found h0
  refine ⟨?_, ?_, ?_, fun b r d => ?_, fun b r d => ?_, fun b r d => ?_⟩
  · rw [outsAt0_B m c t h0 h1]
    dsimp only
    rw [keep_B_0]
    exact hg
  · rw [outsAt0_B m c t h0 h1]
    dsimp only
    rw [keep_B_1]
    exact hu
  · rw [outsAt0_B m c t h0 h1]
    dsimp only
    rw [keep_B_2]
    exact hw
  · rw [show t.val % 32 = (tile t).val from rfl, upTo_succ, ← fg, ← addG_eq hw, outsAt0_B m c t h0 h1]
    dsimp only
    rw [acc_B_3]
    rfl
  · rw [show t.val % 32 = (tile t).val from rfl, upTo_succ, ← fu, ← addU_eq hw, outsAt0_B m c t h0 h1]
    dsimp only
    rw [acc_B_4]
    rfl
  · rw [show t.val % 32 = (tile t).val from rfl, upTo_succ, ← fd, ← addD_eq, outsAt0_B m c t h0 h1]
    dsimp only
    rw [acc_B_5]
    rfl

/-- After every point that is not the last of its half the scratch holds the half's weights and the sums so far. -/
theorem inv : ∀ (n : ℕ) (hn : n < cfg0.N), ¬n % 32 = 31 → Inv m c ⟨n, hn⟩
  | 0, hn, h1 => inv_first m c ⟨0, hn⟩ rfl h1
  | n + 1, hn, h1 => by
    by_cases h0 : (n + 1) % 32 = 0
    · exact inv_first m c ⟨n + 1, hn⟩ h0 h1
    · exact inv_next m c ⟨n + 1, hn⟩ h0 h1 (inv n (Nat.lt_of_succ_lt hn) (by omega))

/-- Every point leaves the gradient of its tile's tokens through its half. -/
theorem out_tokens (t : Fin cfg0.N) (s : Fin 512) (d : Fin 1024) :
    (outsAt0 m c t.val t.isLt).1 (ix3 (0 : Fin 1) s d) = dTok (H m c) (Wg m c) (Wu m c) (Wd m c) (Do m c) (half t) (row (tile t) s) d := by
  by_cases h0 : t.val % 32 = 0
  · have h1 : ¬t.val % 32 = 31 := by omega
    have i := inv_first m c t h0 h1
    rw [← tok_eq i.wg i.wu i.wd, outsAt0_A m c t h0 h1]
    dsimp only
    rw [tok_A (hw0 := rfl) (hw1 := rfl) (hw2 := rfl)]
  · obtain ⟨hg, hu, hw, -⟩ := (inv m c (prev t).val (prev t).isLt (by have := prev_mod t h0; have := (tile t).isLt; omega)).found h0
    rw [← tok_eq hg hu hw]
    by_cases h1 : t.val % 32 = 31
    · rw [outsAt0_C m c t h0 h1]
      dsimp only
      rw [tok_C]
      rfl
    · rw [outsAt0_B m c t h0 h1]
      dsimp only
      rw [tok_B]
      rfl

end Cert.KernelIdeal.Blocks
-- ==== Proof.RunA.lean ====
/- The body of the feed-forward gradient at one kind of grid point, run with its two results in HBM held by value. -/
module

public import proofs.«01_k».proof.Proof.Gen.KernelIdeal.Frame.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the points 0 and 32 (the first of each half) on whole staging buffers, with the two results it leaves in HBM held at given
    contents `fh2`, `fh3`: the pieces its stores leave in each buffer, the two results left at these contents. -/
noncomputable def heldRun_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : cond0_0 i) (hc1 : ¬cond0_1 i)
    (x0 : Vec F S512x1024 .bf16) (x1 : Vec F S512x1024 .bf16) (x2 : Vec F S2x512x704 .bf16) (x3 : Vec F S2x512x704 .bf16) (fh0 : HbBuf0 (F := F) c hbM0_0) (fh1 : HbBuf0 (F := F) c hbM0_1) (fh2 : HbBuf0 (F := F) c hbM0_2) (fh3 : HbBuf0 (F := F) c hbM0_3) :
    Σ' (L4 : List (View.Piece (Elt F) S1x512x1024 .bf16)), Σ' (LS0 : List (View.Piece (Elt F) S2x1024x704 .bf16)), Σ' (LS1 : List (View.Piece (Elt F) S2x1024x704 .bf16)), Σ' (LS2 : List (View.Piece (Elt F) S2x704x1024 .bf16)), Σ' (LS3 : List (View.Piece (Elt F) S2x704x1024 .f32)), Σ' (LS4 : List (View.Piece (Elt F) S2x704x1024 .f32)), { LS5 : List (View.Piece (Elt F) S2x704x1024 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg8 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg8.view.loc (c : Thread nD τ) ↦[arg8.view.set]{fullShare} arg8.view.writes (Elt F) f L4) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4) ∗ (∃ f, arg16.view.loc (c : Thread nD τ) ↦[arg16.view.set]{fullShare} arg16.view.writes (Elt F) f LS5) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 (Memref.whole main_v5) (Memref.isWhole_whole _) (Memref.whole main_v9) (Memref.isWhole_whole _) arg8 harg8 (Memref.whole main_v18_1) (Memref.isWhole_whole _) (Memref.whole main_v18_2) (Memref.isWhole_whole _) arg11 harg11 arg12 harg12 arg13 harg13 arg14 harg14 arg15 harg15 arg16 harg16 cc0_scoped0 cc0_scoped1 cc0_scoped2 cc0_scoped3) K } := by
  refine ⟨?_, ?_, ?_, ?_, ?_, ?_, ?_, fun W K => ?run⟩
  case run =>
    simp only [cc0_ffn_bwd_eq_skeleton]; unfold cc0_ffn_bwd_skel
    simp only [k0_part3_eq_skeleton, k0_part1_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hq2, Hq3, Hq4, Hq5, Hh0, Hh1, Hh2, Hh3, HW, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    isplitl [Hh3]; · iexact Hh3
    iexists _; iexact HW

/-- The pieces of the staged result are those of the run that forgets the two results. -/
theorem held_A_L4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : cond0_0 i) (hc1 : ¬cond0_1 i)
    (x0 : Vec F S512x1024 .bf16) (x1 : Vec F S512x1024 .bf16) (x2 : Vec F S2x512x704 .bf16) (x3 : Vec F S2x512x704 .bf16) (fh0 : HbBuf0 (F := F) c hbM0_0) (fh1 : HbBuf0 (F := F) c hbM0_1) (fh2 : HbBuf0 (F := F) c hbM0_2) (fh3 : HbBuf0 (F := F) c hbM0_3) :
    (heldRun_A c i arg2 harg2 arg3 harg3 arg4 harg4 arg5 harg5 arg8 harg8 arg11 harg11 arg12 harg12 arg13 harg13 arg14 harg14 arg15 harg15 arg16 harg16 hc0 hc1 x0 x1 x2 x3 fh0 fh1 fh2 fh3).1 = (kernelRun0_A c i arg2 harg2 arg3 harg3 arg4 harg4 arg5 harg5 arg8 harg8 arg11 harg11 arg12 harg12 arg13 harg13 arg14 harg14 arg15 harg15 arg16 harg16 hc0 hc1 x0 x1 x2 x3 fh0 fh1).1 := by sl_kernel_rfl

/-- The pieces of the gate weights are those of the run that forgets the two results. -/
theorem held_A_LS0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : cond0_0 i) (hc1 : ¬cond0_1 i)
    (x0 : Vec F S512x1024 .bf16) (x1 : Vec F S512x1024 .bf16) (x2 : Vec F S2x512x704 .bf16) (x3 : Vec F S2x512x704 .bf16) (fh0 : HbBuf0 (F := F) c hbM0_0) (fh1 : HbBuf0 (F := F) c hbM0_1) (fh2 : HbBuf0 (F := F) c hbM0_2) (fh3 : HbBuf0 (F := F) c hbM0_3) :
    (heldRun_A c i arg2 harg2 arg3 harg3 arg4 harg4 arg5 harg5 arg8 harg8 arg11 harg11 arg12 harg12 arg13 harg13 arg14 harg14 arg15 harg15 arg16 harg16 hc0 hc1 x0 x1 x2 x3 fh0 fh1 fh2 fh3).2.1 = (kernelRun0_A c i arg2 harg2 arg3 harg3 arg4 harg4 arg5 harg5 arg8 harg8 arg11 harg11 arg12 harg12 arg13 harg13 arg14 harg14 arg15 harg15 arg16 harg16 hc0 hc1 x0 x1 x2 x3 fh0 fh1).2.1 := by sl_kernel_rfl

/-- The pieces of the up weights are those of the run that forgets the two results. -/
theorem held_A_LS1 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : cond0_0 i) (hc1 : ¬cond0_1 i)
    (x0 : Vec F S512x1024 .bf16) (x1 : Vec F S512x1024 .bf16) (x2 : Vec F S2x512x704 .bf16) (x3 : Vec F S2x512x704 .bf16) (fh0 : HbBuf0 (F := F) c hbM0_0) (fh1 : HbBuf0 (F := F) c hbM0_1) (fh2 : HbBuf0 (F := F) c hbM0_2) (fh3 : HbBuf0 (F := F) c hbM0_3) :
    (heldRun_A c i arg2 harg2 arg3 harg3 arg4 harg4 arg5 harg5 arg8 harg8 arg11 harg11 arg12 harg12 arg13 harg13 arg14 harg14 arg15 harg15 arg16 harg16 hc0 hc1 x0 x1 x2 x3 fh0 fh1 fh2 fh3).2.2.1 = (kernelRun0_A c i arg2 harg2 arg3 harg3 arg4 harg4 arg5 harg5 arg8 harg8 arg11 harg11 arg12 harg12 arg13 harg13 arg14 harg14 arg15 harg15 arg16 harg16 hc0 hc1 x0 x1 x2 x3 fh0 fh1).2.2.1 := by sl_kernel_rfl

/-- The pieces of the down weights are those of the run that forgets the two results. -/
theorem held_A_LS2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : cond0_0 i) (hc1 : ¬cond0_1 i)
    (x0 : Vec F S512x1024 .bf16) (x1 : Vec F S512x1024 .bf16) (x2 : Vec F S2x512x704 .bf16) (x3 : Vec F S2x512x704 .bf16) (fh0 : HbBuf0 (F := F) c hbM0_0) (fh1 : HbBuf0 (F := F) c hbM0_1) (fh2 : HbBuf0 (F := F) c hbM0_2) (fh3 : HbBuf0 (F := F) c hbM0_3) :
    (heldRun_A c i arg2 harg2 arg3 harg3 arg4 harg4 arg5 harg5 arg8 harg8 arg11 harg11 arg12 harg12 arg13 harg13 arg14 harg14 arg15 harg15 arg16 harg16 hc0 hc1 x0 x1 x2 x3 fh0 fh1 fh2 fh3).2.2.2.1 = (kernelRun0_A c i arg2 harg2 arg3 harg3 arg4 harg4 arg5 harg5 arg8 harg8 arg11 harg11 arg12 harg12 arg13 harg13 arg14 harg14 arg15 harg15 arg16 harg16 hc0 hc1 x0 x1 x2 x3 fh0 fh1).2.2.2.1 := by sl_kernel_rfl

/-- The pieces of the gate weights' gradient are those of the run that forgets the two results. -/
theorem held_A_LS3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : cond0_0 i) (hc1 : ¬cond0_1 i)
    (x0 : Vec F S512x1024 .bf16) (x1 : Vec F S512x1024 .bf16) (x2 : Vec F S2x512x704 .bf16) (x3 : Vec F S2x512x704 .bf16) (fh0 : HbBuf0 (F := F) c hbM0_0) (fh1 : HbBuf0 (F := F) c hbM0_1) (fh2 : HbBuf0 (F := F) c hbM0_2) (fh3 : HbBuf0 (F := F) c hbM0_3) :
    (heldRun_A c i arg2 harg2 arg3 harg3 arg4 harg4 arg5 harg5 arg8 harg8 arg11 harg11 arg12 harg12 arg13 harg13 arg14 harg14 arg15 harg15 arg16 harg16 hc0 hc1 x0 x1 x2 x3 fh0 fh1 fh2 fh3).2.2.2.2.1 = (kernelRun0_A c i arg2 harg2 arg3 harg3 arg4 harg4 arg5 harg5 arg8 harg8 arg11 harg11 arg12 harg12 arg13 harg13 arg14 harg14 arg15 harg15 arg16 harg16 hc0 hc1 x0 x1 x2 x3 fh0 fh1).2.2.2.2.1 := by sl_kernel_rfl

/-- The pieces of the up weights' gradient are those of the run that forgets the two results. -/
theorem held_A_LS4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : cond0_0 i) (hc1 : ¬cond0_1 i)
    (x0 : Vec F S512x1024 .bf16) (x1 : Vec F S512x1024 .bf16) (x2 : Vec F S2x512x704 .bf16) (x3 : Vec F S2x512x704 .bf16) (fh0 : HbBuf0 (F := F) c hbM0_0) (fh1 : HbBuf0 (F := F) c hbM0_1) (fh2 : HbBuf0 (F := F) c hbM0_2) (fh3 : HbBuf0 (F := F) c hbM0_3) :
    (heldRun_A c i arg2 harg2 arg3 harg3 arg4 harg4 arg5 harg5 arg8 harg8 arg11 harg11 arg12 harg12 arg13 harg13 arg14 harg14 arg15 harg15 arg16 harg16 hc0 hc1 x0 x1 x2 x3 fh0 fh1 fh2 fh3).2.2.2.2.2.1 = (kernelRun0_A c i arg2 harg2 arg3 harg3 arg4 harg4 arg5 harg5 arg8 harg8 arg11 harg11 arg12 harg12 arg13 harg13 arg14 harg14 arg15 harg15 arg16 harg16 hc0 hc1 x0 x1 x2 x3 fh0 fh1).2.2.2.2.2.1 := by sl_kernel_rfl

/-- The pieces of the down weights' gradient are those of the run that forgets the two results. -/
theorem held_A_LS5 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : cond0_0 i) (hc1 : ¬cond0_1 i)
    (x0 : Vec F S512x1024 .bf16) (x1 : Vec F S512x1024 .bf16) (x2 : Vec F S2x512x704 .bf16) (x3 : Vec F S2x512x704 .bf16) (fh0 : HbBuf0 (F := F) c hbM0_0) (fh1 : HbBuf0 (F := F) c hbM0_1) (fh2 : HbBuf0 (F := F) c hbM0_2) (fh3 : HbBuf0 (F := F) c hbM0_3) :
    (heldRun_A c i arg2 harg2 arg3 harg3 arg4 harg4 arg5 harg5 arg8 harg8 arg11 harg11 arg12 harg12 arg13 harg13 arg14 harg14 arg15 harg15 arg16 harg16 hc0 hc1 x0 x1 x2 x3 fh0 fh1 fh2 fh3).2.2.2.2.2.2.1 = (kernelRun0_A c i arg2 harg2 arg3 harg3 arg4 harg4 arg5 harg5 arg8 harg8 arg11 harg11 arg12 harg12 arg13 harg13 arg14 harg14 arg15 harg15 arg16 harg16 hc0 hc1 x0 x1 x2 x3 fh0 fh1).2.2.2.2.2.2.1 := by sl_kernel_rfl

end Cert.KernelIdeal.Gen

end
-- ==== Proof.RunB.lean ====
/- The body of the feed-forward gradient at one kind of grid point, run with its two results in HBM held by value. -/
module

public import proofs.«01_k».proof.Proof.Gen.KernelIdeal.Frame.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1600000 in
/-- The body at the points that are neither first nor last of their half on whole staging buffers, with the two results it leaves in HBM held at given
    contents `fh2`, `fh3`: the pieces its stores leave in each buffer, the two results left at these contents. -/
noncomputable def heldRun_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    Σ' (L4 : List (View.Piece (Elt F) S1x512x1024 .bf16)), Σ' (LS0 : List (View.Piece (Elt F) S2x1024x704 .bf16)), Σ' (LS1 : List (View.Piece (Elt F) S2x1024x704 .bf16)), Σ' (LS2 : List (View.Piece (Elt F) S2x704x1024 .bf16)), Σ' (LS3 : List (View.Piece (Elt F) S2x704x1024 .f32)), Σ' (LS4 : List (View.Piece (Elt F) S2x704x1024 .f32)), { LS5 : List (View.Piece (Elt F) S2x704x1024 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg8 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4 ∗ owns (c : Thread nD τ) arg16 fullShare xs5 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg8.view.loc (c : Thread nD τ) ↦[arg8.view.set]{fullShare} arg8.view.writes (Elt F) f L4) ∗ owns (c : Thread nD τ) arg11 fullShare xs0 ∗ owns (c : Thread nD τ) arg12 fullShare xs1 ∗ owns (c : Thread nD τ) arg13 fullShare xs2 ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4) ∗ (∃ f, arg16.view.loc (c : Thread nD τ) ↦[arg16.view.set]{fullShare} arg16.view.writes (Elt F) f LS5) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 (Memref.whole main_v5) (Memref.isWhole_whole _) (Memref.whole main_v9) (Memref.isWhole_whole _) arg8 harg8 (Memref.whole main_v18_1) (Memref.isWhole_whole _) (Memref.whole main_v18_2) (Memref.isWhole_whole _) arg11 harg11 arg12 harg12 arg13 harg13 arg14 harg14 arg15 harg15 arg16 harg16 cc0_scoped0 cc0_scoped1 cc0_scoped2 cc0_scoped3) K } := by
  refine ⟨?_, [], [], [], ?_, ?_, ?_, fun W K => ?run⟩
  case run =>
    simp only [cc0_ffn_bwd_eq_skeleton]; unfold cc0_ffn_bwd_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hq0, Hq1, Hq2, Hq3, Hq4, Hq5, Hh0, Hh1, Hh2, Hh3, HW, Hk⟩
    obtain rfl := harg2.eq_unread hf0; obtain rfl := harg3.eq_unread hf1; obtain rfl := harg4.eq_unread hf2; obtain rfl := harg5.eq_unread hf3; obtain rfl := harg11.eq_unread hfs0; obtain rfl := harg12.eq_unread hfs1; obtain rfl := harg13.eq_unread hfs2; obtain rfl := harg14.eq_unread hfs3; obtain rfl := harg15.eq_unread hfs4; obtain rfl := harg16.eq_unread hfs5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg11.read_unread _
      iexact HS0
    isplitl [HS1]
    · iexists _; isplitr; · ipureintro; exact harg12.read_unread _
      iexact HS1
    isplitl [HS2]
    · iexists _; isplitr; · ipureintro; exact harg13.read_unread _
      iexact HS2
    isplitl [HS3]; · iexists _; iexact HS3
    isplitl [HS4]; · iexists _; iexact HS4
    isplitl [HS5]; · iexists _; iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    isplitl [Hh3]; · iexact Hh3
    iexists _; iexact HW

/-- The pieces of the staged result are those of the run that forgets the two results. -/
theorem held_B_L4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    (heldRun_B c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 fh2 fh3).1 = (kernelRun0_B c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1).1 := by sl_kernel_rfl

/-- The pieces of the gate weights are those of the run that forgets the two results. -/
theorem held_B_LS0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    (heldRun_B c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 fh2 fh3).2.1 = (kernelRun0_B c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1).2.1 := by sl_kernel_rfl

/-- The pieces of the up weights are those of the run that forgets the two results. -/
theorem held_B_LS1 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    (heldRun_B c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 fh2 fh3).2.2.1 = (kernelRun0_B c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1).2.2.1 := by sl_kernel_rfl

/-- The pieces of the down weights are those of the run that forgets the two results. -/
theorem held_B_LS2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    (heldRun_B c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 fh2 fh3).2.2.2.1 = (kernelRun0_B c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1).2.2.2.1 := by sl_kernel_rfl

/-- The pieces of the gate weights' gradient are those of the run that forgets the two results. -/
theorem held_B_LS3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    (heldRun_B c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 fh2 fh3).2.2.2.2.1 = (kernelRun0_B c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1).2.2.2.2.1 := by sl_kernel_rfl

/-- The pieces of the up weights' gradient are those of the run that forgets the two results. -/
theorem held_B_LS4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    (heldRun_B c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 fh2 fh3).2.2.2.2.2.1 = (kernelRun0_B c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1).2.2.2.2.2.1 := by sl_kernel_rfl

/-- The pieces of the down weights' gradient are those of the run that forgets the two results. -/
theorem held_B_LS5 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : ¬cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    (heldRun_B c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 fh2 fh3).2.2.2.2.2.2.1 = (kernelRun0_B c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1).2.2.2.2.2.2.1 := by sl_kernel_rfl

end Cert.KernelIdeal.Gen

end
-- ==== Proof.RunC.lean ====
/- The body of the feed-forward gradient at one kind of grid point, run with its two results in HBM held by value. -/
module

public import proofs.«01_k».proof.Proof.Gen.KernelIdeal.Frame.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1600000 in
/-- The body at the points 31 and 63 (the last of each half) on whole staging buffers, with the two results it leaves in HBM held at given
    contents `fh2`, `fh3`: the pieces its stores leave in each buffer, and the contents it leaves in the two results. -/
noncomputable def heldRun_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    Σ' (L4 : List (View.Piece (Elt F) S1x512x1024 .bf16)), Σ' (LS0 : List (View.Piece (Elt F) S2x1024x704 .bf16)), Σ' (LS1 : List (View.Piece (Elt F) S2x1024x704 .bf16)), Σ' (LS2 : List (View.Piece (Elt F) S2x704x1024 .bf16)), Σ' (LS3 : List (View.Piece (Elt F) S2x704x1024 .f32)), Σ' (LS4 : List (View.Piece (Elt F) S2x704x1024 .f32)), Σ' (LS5 : List (View.Piece (Elt F) S2x704x1024 .f32)), Σ' (g2 : HbBuf0 (F := F) c hbM0_2), { g3 : HbBuf0 (F := F) c hbM0_3 //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg8 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4 ∗ owns (c : Thread nD τ) arg16 fullShare xs5 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg8.view.loc (c : Thread nD τ) ↦[arg8.view.set]{fullShare} arg8.view.writes (Elt F) f L4) ∗ owns (c : Thread nD τ) arg11 fullShare xs0 ∗ owns (c : Thread nD τ) arg12 fullShare xs1 ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4) ∗ (∃ f, arg16.view.loc (c : Thread nD τ) ↦[arg16.view.set]{fullShare} arg16.view.writes (Elt F) f LS5) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 g2 ∗ hbPt0 c hbM0_3 g3 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 (Memref.whole main_v5) (Memref.isWhole_whole _) (Memref.whole main_v9) (Memref.isWhole_whole _) arg8 harg8 (Memref.whole main_v18_1) (Memref.isWhole_whole _) (Memref.whole main_v18_2) (Memref.isWhole_whole _) arg11 harg11 arg12 harg12 arg13 harg13 arg14 harg14 arg15 harg15 arg16 harg16 cc0_scoped0 cc0_scoped1 cc0_scoped2 cc0_scoped3) K } := by
  refine ⟨?_, [], [], ?_, ?_, ?_, ?_, ?_, ?_, fun W K => ?run⟩
  case run =>
    simp only [cc0_ffn_bwd_eq_skeleton]; unfold cc0_ffn_bwd_skel
    simp only [k0_part3_eq_skeleton, k0_part4_eq_skeleton, k0_part5_eq_skeleton, k0_part6_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hq0, Hq1, Hq2, Hq3, Hq4, Hq5, Hh0, Hh1, Hh2, Hh3, HW, Hk⟩
    obtain rfl := harg2.eq_unread hf0; obtain rfl := harg3.eq_unread hf1; obtain rfl := harg4.eq_unread hf2; obtain rfl := harg5.eq_unread hf3; obtain rfl := harg11.eq_unread hfs0; obtain rfl := harg12.eq_unread hfs1; obtain rfl := harg13.eq_unread hfs2; obtain rfl := harg14.eq_unread hfs3; obtain rfl := harg15.eq_unread hfs4; obtain rfl := harg16.eq_unread hfs5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg11.read_unread _
      iexact HS0
    isplitl [HS1]
    · iexists _; isplitr; · ipureintro; exact harg12.read_unread _
      iexact HS1
    isplitl [HS2]; · iexists _; iexact HS2
    isplitl [HS3]; · iexists _; iexact HS3
    isplitl [HS4]; · iexists _; iexact HS4
    isplitl [HS5]; · iexists _; iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    isplitl [Hh3]; · iexact Hh3
    iexists _; iexact HW

/-- The pieces of the staged result are those of the run that forgets the two results. -/
theorem held_C_L4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    (heldRun_C c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 fh2 fh3).1 = (kernelRun0_C c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1).1 := by sl_kernel_rfl

/-- The pieces of the gate weights are those of the run that forgets the two results. -/
theorem held_C_LS0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    (heldRun_C c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 fh2 fh3).2.1 = (kernelRun0_C c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1).2.1 := by sl_kernel_rfl

/-- The pieces of the up weights are those of the run that forgets the two results. -/
theorem held_C_LS1 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    (heldRun_C c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 fh2 fh3).2.2.1 = (kernelRun0_C c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1).2.2.1 := by sl_kernel_rfl

/-- The pieces of the down weights are those of the run that forgets the two results. -/
theorem held_C_LS2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    (heldRun_C c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 fh2 fh3).2.2.2.1 = (kernelRun0_C c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1).2.2.2.1 := by sl_kernel_rfl

/-- The pieces of the gate weights' gradient are those of the run that forgets the two results. -/
theorem held_C_LS3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    (heldRun_C c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 fh2 fh3).2.2.2.2.1 = (kernelRun0_C c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1).2.2.2.2.1 := by sl_kernel_rfl

/-- The pieces of the up weights' gradient are those of the run that forgets the two results. -/
theorem held_C_LS4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    (heldRun_C c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 fh2 fh3).2.2.2.2.2.1 = (kernelRun0_C c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1).2.2.2.2.2.1 := by sl_kernel_rfl

/-- The pieces of the down weights' gradient are those of the run that forgets the two results. -/
theorem held_C_LS5 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2x512x704 .bf16) (harg4 : arg4.IsWhole) (arg5 : Memref sig .tc .vmem S2x512x704 .bf16) (harg5 : arg5.IsWhole) (arg8 : Memref sig .tc .vmem S1x512x1024 .bf16) (harg8 : arg8.IsWhole) (arg11 : Memref sig .tc .vmem S2x1024x704 .bf16) (harg11 : arg11.IsWhole) (arg12 : Memref sig .tc .vmem S2x1024x704 .bf16) (harg12 : arg12.IsWhole) (arg13 : Memref sig .tc .vmem S2x704x1024 .bf16) (harg13 : arg13.IsWhole) (arg14 : Memref sig .tc .vmem S2x704x1024 .f32) (harg14 : arg14.IsWhole) (arg15 : Memref sig .tc .vmem S2x704x1024 .f32) (harg15 : arg15.IsWhole) (arg16 : Memref sig .tc .vmem S2x704x1024 .f32) (harg16 : arg16.IsWhole) (hc0 : ¬cond0_0 i) (hc1 : cond0_1 i)
    (x0 : Vec F S512x1024 .bf16) (x1 : Vec F S512x1024 .bf16) (x2 : Vec F S2x512x704 .bf16) (x3 : Vec F S2x512x704 .bf16) (xs0 : Vec F S2x1024x704 .bf16) (xs1 : Vec F S2x1024x704 .bf16) (xs2 : Vec F S2x704x1024 .bf16) (xs3 : Vec F S2x704x1024 .f32) (xs4 : Vec F S2x704x1024 .f32) (xs5 : Vec F S2x704x1024 .f32) (fh0 : HbBuf0 (F := F) c hbM0_0) (fh1 : HbBuf0 (F := F) c hbM0_1) (fh2 : HbBuf0 (F := F) c hbM0_2) (fh3 : HbBuf0 (F := F) c hbM0_3) :
    (heldRun_C c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1 fh2 fh3).2.2.2.2.2.2.1 = (kernelRun0_C c i arg2 harg2 arg3 harg3 arg4 harg4 arg5 harg5 arg8 harg8 arg11 harg11 arg12 harg12 arg13 harg13 arg14 harg14 arg15 harg15 arg16 harg16 hc0 hc1 x0 x1 x2 x3 xs0 xs1 xs2 xs3 xs4 xs5 fh0 fh1).2.2.2.2.2.2.1 := by sl_kernel_rfl

end Cert.KernelIdeal.Gen

end
-- ==== Proof.Held.lean ====
/- The launch of the feed-forward gradient with the two results the body writes into HBM itself held at named contents,
   point by point: the run behind both frames and behind the values of the three results. -/
module

public import proofs.«01_k».proof.Proof.RunA
public import proofs.«01_k».proof.Proof.RunB
public import proofs.«01_k».proof.Proof.RunC
public import proofs.«01_k».proof.Proof.Gen.KernelIdeal.Frame
public import Idealize.ShloMosaic.Lib.Pipeline.FrameValue

@[expose] public section

set_option maxRecDepth 16384

noncomputable section

namespace Cert.KernelIdeal.Held

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Pieces that cover a view are read back the same wherever they were written, also when the two lists are equal only
    by a proof. -/
theorem read_of_pieces {sg sg' : RefSig} {κ κ' : Kind} {sp sp' : Space} {S : Shape} {e : EltTy} {v : View sg κ sp S e} {w : View sg' κ' sp' S e}
    {f : v.ty.Contents (Elt F)} {g : w.ty.Contents (Elt F)} {L L' : List (View.Piece (Elt F) S e)} (hL : L = L')
    (hc : ∀ y, ∃ pc ∈ L', y ∈ pc.1.set) : v.read (Elt F) (v.writes (Elt F) f L) = w.read (Elt F) (w.writes (Elt F) g L') := by
  subst hL; exact View.read_writes_of_cover _ _ _ _ _ hc

/-- What the last point of a half leaves in the array of the gate and up weights' gradients, entered at `f2`. -/
def left2 (c : Dev nD) (t : Fin cfg0.N) (h0 : ¬t.val % 32 = 0) (h1 : t.val % 32 = 31) (f2 : HbBuf0 (F := F) c hbM0_2) (f3 : HbBuf0 (F := F) c hbM0_3) :
    HbBuf0 (F := F) c hbM0_2 :=
  (heldRun_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v5) (V m c main_v9) f2 f3).2.2.2.2.2.2.2.1

/-- What the last point of a half leaves in the array of the down weights' gradient, entered at `f3`. -/
def left3 (c : Dev nD) (t : Fin cfg0.N) (h0 : ¬t.val % 32 = 0) (h1 : t.val % 32 = 31) (f2 : HbBuf0 (F := F) c hbM0_2) (f3 : HbBuf0 (F := F) c hbM0_3) :
    HbBuf0 (F := F) c hbM0_3 :=
  (heldRun_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v5) (V m c main_v9) f2 f3).2.2.2.2.2.2.2.2.1

/-- The two results in HBM before point `n`: as the launch finds them, until the last point of a half writes its rows. -/
def hv (c : Dev nD) : (n : ℕ) → HbBuf0 (F := F) c hbM0_2 × HbBuf0 (F := F) c hbM0_3
  | 0 => (V m c main_v18_1, V m c main_v18_2)
  | n + 1 =>
    if h : n < cfg0.N ∧ n % 32 = 31 then
      (left2 m c ⟨n, h.1⟩ (by have := h.2; show ¬ n % 32 = 0; omega) h.2 (hv c n).1 (hv c n).2,
        left3 m c ⟨n, h.1⟩ (by have := h.2; show ¬ n % 32 = 0; omega) h.2 (hv c n).1 (hv c n).2)
    else hv c n

/-- A point that is not the last of its half leaves the two results. -/
theorem hv_keep (c : Dev nD) (n : ℕ) (h1 : ¬n % 32 = 31) : hv m c (n + 1) = hv m c n := by
  rw [hv]; exact dif_neg fun h => h1 h.2

/-- The last point of a half writes them. -/
theorem hv_last (c : Dev nD) (t : Fin cfg0.N) (h0 : ¬t.val % 32 = 0) (h1 : t.val % 32 = 31) :
    hv m c (t.val + 1) = (left2 m c t h0 h1 (hv m c t.val).1 (hv m c t.val).2, left3 m c t h0 h1 (hv m c t.val).1 (hv m c t.val).2) := by
  rw [hv]; exact dif_pos ⟨t.isLt, h1⟩

/-- Before the first point they are as the launch finds them. -/
theorem hv_zero (c : Dev nD) : hv m c 0 = (V m c main_v18_1, V m c main_v18_2) := by
  rw [hv]

attribute [irreducible] hv

/-- The contents of the core's buffers after the launch: the two results at what the last point leaves. -/
def G (c : Dev nD) (b : Ref sig .tc) : Buf (Elt F) ((c.tc : Thread nD τ).loc b) :=
  Function.update (Function.update (V m c) main_v18_1 (hv m c cfg0.N).1) main_v18_2 (hv m c cfg0.N).2 b

/-- The two results at contents `W`, listed. -/
theorem routed_eq (c : Dev nD) (W : (b : Ref sig .tc) → Buf (Elt F) ((c.tc : Thread nD τ).loc b)) :
    (Pipeline.routed R0 c W : sProp 𝕄) = iprop(hbPt0 c hbM0_2 (W main_v18_1) ∗ hbPt0 c hbM0_3 (W main_v18_2)) := by
  unfold Pipeline.routed; rw [BI.bigSep_eq_bigSepL_of_eq [main_v18_1, main_v18_2] (by decide) (by decide)]; rfl

/-- The launch's invariant with the two results at contents `W`, conjunct by conjunct. -/
theorem PhiDRG_eq (c : Dev nD) (W : (c : Dev nD) → (b : Ref sig .tc) → Buf (Elt F) ((c.tc : Thread nD τ).loc b)) :
    (Pipeline.ΦDRG osem0 spec0 H0 R0 (V m) W c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_v5) ∗ hbPt0 c hbM0_1 (V m c main_v9)) ∗ iprop(hbPt0 c hbM0_2 (W c main_v18_1) ∗ hbPt0 c hbM0_3 (W c main_v18_2))) := by
  rw [Pipeline.ΦDRG_eq, scopedRest0_eq, ownSems00_eq, hbmPts0_eq, routed_eq]; simp only [scM0_0, scM0_1, scM0_2, scM0_3, scM0_4, scM0_5, owns_whole]; try rfl

/-- The invariant before point `n`: before the first the launch's own; afterwards the six scratch buffers at what the point before
    left in them and the two results at `hv`. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2.1) ∗ owns (c : Thread nD τ) scM0_5 fullShare ((outsAt0 m c n hn).2.2.2.2.2.2)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_v5) ∗ hbPt0 c hbM0_1 (V m c main_v9)) ∗ iprop(hbPt0 c hbM0_2 (hv m c (n + 1)).1 ∗ hbPt0 c hbM0_3 (hv m c (n + 1)).2))

/-- Before the first point, listed. -/
theorem PhiS_zero (c : Dev nD) (n : ℕ) (h : n ≤ cfg0.N) (hz : n = 0) : PhiS m c n h
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_v5) ∗ hbPt0 c hbM0_1 (V m c main_v9)) ∗ iprop(hbPt0 c hbM0_2 (hv m c n).1 ∗ hbPt0 c hbM0_3 (hv m c n).2)) := by
  subst hz; rw [PhiS, PhiDRG_eq, hv_zero]

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2.1) ∗ owns (c : Thread nD τ) scM0_5 fullShare ((outsAt0 m c n hn).2.2.2.2.2.2)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_v5) ∗ hbPt0 c hbM0_1 (V m c main_v9)) ∗ iprop(hbPt0 c hbM0_2 (hv m c (n + 1)).1 ∗ hbPt0 c hbM0_3 (hv m c (n + 1)).2)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2.1) ∗ owns (c : Thread nD τ) scM0_4 fullShare ((outsAt0 m c (n - 1) (by omega)).2.2.2.2.2.1) ∗ owns (c : Thread nD τ) scM0_5 fullShare ((outsAt0 m c (n - 1) (by omega)).2.2.2.2.2.2)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_v5) ∗ hbPt0 c hbM0_1 (V m c main_v9)) ∗ iprop(hbPt0 c hbM0_2 (hv m c n).1 ∗ hbPt0 c hbM0_3 (hv m c n).2)) := by
  cases n with
  | zero => exact absurd rfl hz
  | succ n => rfl

attribute [local irreducible] heldRun_A heldRun_B heldRun_C kernelRun0_A kernelRun0_B kernelRun0_C

/-- The proof data of the pipeline: the arrays as the region finds them, each staged result after point `t` at `outsAt0`, the
    invariant `PhiS`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 9600000 in
/-- The body at any point of the grid: the point's case is read off its coordinates, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4]
  unfold Dat.owesAt Pipeline.owesWithin
  rw [show (dats m 0 c).owed t.castSucc = 0 from rfl, show (dats m 0 c).owed t.succ = 0 from rfl]
  have hN : t.val < 64 := lt_of_lt_of_eq t.isLt (show cfg0.N = 64 from N_0)
  by_cases h0 : t.val % 32 = 0
  · by_cases h1 : t.val % 32 = 31
    · exfalso; omega
    · by_cases hz : t.val = 0
      · rw [PhiS_castSucc m c t, PhiS_zero m c _ _ hz]
        rw [outsAt0_A m c t h0 h1, hv_keep m c t.val h1]
        unfold out0_A_4 sout0_A_0 sout0_A_1 sout0_A_2 sout0_A_3 sout0_A_4 sout0_A_5; (try dsimp only)
        iintro ⟨⟨⟨HS0, HS1, HS2, HS3, HS4, HS5⟩, Hg, ⟨Hq0, Hq1, Hq2, Hq3, Hq4, Hq5⟩, ⟨Hh0, Hh1⟩, ⟨Hh2, Hh3⟩⟩, ⟨%W, -, HW⟩, ⟨%d0, H0⟩, ⟨%d1, H1⟩, ⟨%d2, H2⟩, ⟨%d3, H3⟩, ⟨%d4, H4⟩⟩
        iapply ((heldRun_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (V m c main_v5) (V m c main_v9) _ _).2.2.2.2.2.2.2 W _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        isplitl [HS5]; · iexact HS5
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hh0]; · iexact Hh0
        isplitl [Hh1]; · iexact Hh1
        isplitl [Hh2]; · iexact Hh2
        isplitl [Hh3]; · iexact Hh3
        isplitl [HW]; · iexact HW
        iintro ⟨H0, H1, H2, H3, ⟨%e4, H4⟩, ⟨%es0, HS0⟩, ⟨%es1, HS1⟩, ⟨%es2, HS2⟩, ⟨%es3, HS3⟩, ⟨%es4, HS4⟩, ⟨%es5, HS5⟩, Hq0, Hq1, Hq2, Hq3, Hq4, Hq5, Hh0, Hh1, Hh2, Hh3, ⟨%W', HW'⟩⟩
        isplitl [HS0 HS1 HS2 HS3 HS4 HS5 Hg Hq0 Hq1 Hq2 Hq3 Hq4 Hq5 Hh0 Hh1 Hh2 Hh3]
        · isplitl [HS0 HS1 HS2 HS3 HS4 HS5]
          · isplitl [HS0]
            · unfold owns; iexists _; isplitr
              swap; · iexact HS0
              ipureintro; exact read_of_pieces (held_A_LS0 c _ _ _ _ _ _ _ _ _ _ _ _ _ _ _ _ _ _ _ _ _ _ _ _ _ _ _ _ _ _ _ _ _) (scover0_A_0 c _ _ _ _ _ _ _ _ _ _ _ _ _ _ _ _ _ _ _ _ _ _ _ _ _ _ _ _ _ _ _)
            isplitl [HS1]
            · unfold owns; iexists _; isplitr
              swap; · iexact HS1
              ipureintro; exact read_of_pieces (held_A_LS1 c _ _ _ _ _ _ _ _ _ _ _ _ _ _ _ _ _ _ _ _ _ _ _ _ _ _ _ _ _ _ _ _ _) (scover0_A_1 c _ _ _ _ _ _ _ _ _ _ _ _ _ _ _ _ _ _ _ _ _ _ _ _ _ _ _ _ _ _ _)
            isplitl [HS2]
            · unfold owns; iexists _; isplitr
              swap; · iexact HS2
              ipureintro; exact read_of_pieces (held_A_LS2 c _ _ _ _ _ _ _ _ _ _ _ _ _ _ _ _ _ _ _ _ _ _ _ _ _ _ _ _ _ _ _ _ _) (scover0_A_2 c _ _ _ _ _ _ _ _ _ _ _ _ _ _ _ _ _ _ _ _ _ _ _ _ _ _ _ _ _ _ _)
            isplitl [HS3]
            · unfold owns; iexists _; isplitr
              swap; · iexact HS3
              ipureintro; exact read_of_pieces (held_A_LS3 c _ _ _ _ _ _ _ _ _ _ _ _ _ _ _ _ _ _ _ _ _ _ _ _ _ _ _ _ _ _ _ _ _) (scover0_A_3 c _ _ _ _ _ _ _ _ _ _ _ _ _ _ _ _ _ _ _ _ _ _ _ _ _ _ _ _ _ _ _)
            isplitl [HS4]
            · unfold owns; iexists _; isplitr
              swap; · iexact HS4
              ipureintro; exact read_of_pieces (held_A_LS4 c _ _ _ _ _ _ _ _ _ _ _ _ _ _ _ _ _ _ _ _ _ _ _ _ _ _ _ _ _ _ _ _ _) (scover0_A_4 c _ _ _ _ _ _ _ _ _ _ _ _ _ _ _ _ _ _ _ _ _ _ _ _ _ _ _ _ _ _ _)
            unfold owns; iexists _; isplitr
            swap; · iexact HS5
            ipureintro; exact read_of_pieces (held_A_LS5 c _ _ _ _ _ _ _ _ _ _ _ _ _ _ _ _ _ _ _ _ _ _ _ _ _ _ _ _ _ _ _ _ _) (scover0_A_5 c _ _ _ _ _ _ _ _ _ _ _ _ _ _ _ _ _ _ _ _ _ _ _ _ _ _ _ _ _ _ _)
          isplitl [Hg]
          · iexact Hg
          isplitl [Hq0 Hq1 Hq2 Hq3 Hq4 Hq5]
          · isplitl [Hq0]; · iexact Hq0
            isplitl [Hq1]; · iexact Hq1
            isplitl [Hq2]; · iexact Hq2
            isplitl [Hq3]; · iexact Hq3
            isplitl [Hq4]; · iexact Hq4
            iexact Hq5
          isplitl [Hh0 Hh1]
          · isplitl [Hh0]; · iexact Hh0
            iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        unfold owns; iexists _; isplitr
        swap; · iexact H4
        ipureintro; exact read_of_pieces (held_A_L4 c _ _ _ _ _ _ _ _ _ _ _ _ _ _ _ _ _ _ _ _ _ _ _ _ _ _ _ _ _ _ _ _ _) (cover0_A_4 c _ _ _ _ _ _ _ _ _ _ _ _ _ _ _ _ _ _ _ _ _ _ _ _ _ _ _ _ _ _ _)
      · rw [PhiS_castSucc m c t, PhiS_pos m c _ _ hz]
        rw [outsAt0_A m c t h0 h1, hv_keep m c t.val h1]
        unfold out0_A_4 sout0_A_0 sout0_A_1 sout0_A_2 sout0_A_3 sout0_A_4 sout0_A_5; (try dsimp only)
        iintro ⟨⟨⟨HS0, HS1, HS2, HS3, HS4, HS5⟩, Hg, ⟨Hq0, Hq1, Hq2, Hq3, Hq4, Hq5⟩, ⟨Hh0, Hh1⟩, ⟨Hh2, Hh3⟩⟩, ⟨%W, -, HW⟩, ⟨%d0, H0⟩, ⟨%d1, H1⟩, ⟨%d2, H2⟩, ⟨%d3, H3⟩, ⟨%d4, H4⟩⟩
        iapply ((heldRun_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (V m c main_v5) (V m c main_v9) _ _).2.2.2.2.2.2.2 W _)
        isplitl [H0]; · iexact H0
        isplitl [H1]; · iexact H1
        isplitl [H2]; · iexact H2
        isplitl [H3]; · iexact H3
        isplitl [H4]; · iexists _; iexact H4
        isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hh0]; · iexact Hh0
        isplitl [Hh1]; · iexact Hh1
        isplitl [Hh2]; · iexact Hh2
        isplitl [Hh3]; · iexact Hh3
        isplitl [HW]; · iexact HW
        iintro ⟨H0, H1, H2, H3, ⟨%e4, H4⟩, ⟨%es0, HS0⟩, ⟨%es1, HS1⟩, ⟨%es2, HS2⟩, ⟨%es3, HS3⟩, ⟨%es4, HS4⟩, ⟨%es5, HS5⟩, Hq0, Hq1, Hq2, Hq3, Hq4, Hq5, Hh0, Hh1, Hh2, Hh3, ⟨%W', HW'⟩⟩
        isplitl [HS0 HS1 HS2 HS3 HS4 HS5 Hg Hq0 Hq1 Hq2 Hq3 Hq4 Hq5 Hh0 Hh1 Hh2 Hh3]
        · isplitl [HS0 HS1 HS2 HS3 HS4 HS5]
          · isplitl [HS0]
            · unfold owns; iexists _; isplitr
              swap; · iexact HS0
              ipureintro; exact read_of_pieces (held_A_LS0 c _ _ _ _ _ _ _ _ _ _ _ _ _ _ _ _ _ _ _ _ _ _ _ _ _ _ _ _ _ _ _ _ _) (scover0_A_0 c _ _ _ _ _ _ _ _ _ _ _ _ _ _ _ _ _ _ _ _ _ _ _ _ _ _ _ _ _ _ _)
            isplitl [HS1]
            · unfold owns; iexists _; isplitr
              swap; · iexact HS1
              ipureintro; exact read_of_pieces (held_A_LS1 c _ _ _ _ _ _ _ _ _ _ _ _ _ _ _ _ _ _ _ _ _ _ _ _ _ _ _ _ _ _ _ _ _) (scover0_A_1 c _ _ _ _ _ _ _ _ _ _ _ _ _ _ _ _ _ _ _ _ _ _ _ _ _ _ _ _ _ _ _)
            isplitl [HS2]
            · unfold owns; iexists _; isplitr
              swap; · iexact HS2
              ipureintro; exact read_of_pieces (held_A_LS2 c _ _ _ _ _ _ _ _ _ _ _ _ _ _ _ _ _ _ _ _ _ _ _ _ _ _ _ _ _ _ _ _ _) (scover0_A_2 c _ _ _ _ _ _ _ _ _ _ _ _ _ _ _ _ _ _ _ _ _ _ _ _ _ _ _ _ _ _ _)
            isplitl [HS3]
            · unfold owns; iexists _; isplitr
              swap; · iexact HS3
              ipureintro; exact read_of_pieces (held_A_LS3 c _ _ _ _ _ _ _ _ _ _ _ _ _ _ _ _ _ _ _ _ _ _ _ _ _ _ _ _ _ _ _ _ _) (scover0_A_3 c _ _ _ _ _ _ _ _ _ _ _ _ _ _ _ _ _ _ _ _ _ _ _ _ _ _ _ _ _ _ _)
            isplitl [HS4]
            · unfold owns; iexists _; isplitr
              swap; · iexact HS4
              ipureintro; exact read_of_pieces (held_A_LS4 c _ _ _ _ _ _ _ _ _ _ _ _ _ _ _ _ _ _ _ _ _ _ _ _ _ _ _ _ _ _ _ _ _) (scover0_A_4 c _ _ _ _ _ _ _ _ _ _ _ _ _ _ _ _ _ _ _ _ _ _ _ _ _ _ _ _ _ _ _)
            unfold owns; iexists _; isplitr
            swap; · iexact HS5
            ipureintro; exact read_of_pieces (held_A_LS5 c _ _ _ _ _ _ _ _ _ _ _ _ _ _ _ _ _ _ _ _ _ _ _ _ _ _ _ _ _ _ _ _ _) (scover0_A_5 c _ _ _ _ _ _ _ _ _ _ _ _ _ _ _ _ _ _ _ _ _ _ _ _ _ _ _ _ _ _ _)
          isplitl [Hg]
          · iexact Hg
          isplitl [Hq0 Hq1 Hq2 Hq3 Hq4 Hq5]
          · isplitl [Hq0]; · iexact Hq0
            isplitl [Hq1]; · iexact Hq1
            isplitl [Hq2]; · iexact Hq2
            isplitl [Hq3]; · iexact Hq3
            isplitl [Hq4]; · iexact Hq4
            iexact Hq5
          isplitl [Hh0 Hh1]
          · isplitl [Hh0]; · iexact Hh0
            iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        unfold owns; iexists _; isplitr
        swap; · iexact H4
        ipureintro; exact read_of_pieces (held_A_L4 c _ _ _ _ _ _ _ _ _ _ _ _ _ _ _ _ _ _ _ _ _ _ _ _ _ _ _ _ _ _ _ _ _) (cover0_A_4 c _ _ _ _ _ _ _ _ _ _ _ _ _ _ _ _ _ _ _ _ _ _ _ _ _ _ _ _ _ _ _)
  · by_cases h1 : t.val % 32 = 31
    · by_cases hz : t.val = 0
      · exfalso; have hN : t.val < 64 := lt_of_lt_of_eq t.isLt (show cfg0.N = 64 from N_0); omega
      · rw [PhiS_castSucc m c t, PhiS_pos m c _ _ hz]
        rw [outsAt0_C m c t h0 h1, hv_last m c t h0 h1]
        unfold out0_C_4 sout0_C_0 sout0_C_1 sout0_C_2 sout0_C_3 sout0_C_4 sout0_C_5 left2 left3; (try dsimp only)
        iintro ⟨⟨⟨HS0, HS1, HS2, HS3, HS4, HS5⟩, Hg, ⟨Hq0, Hq1, Hq2, Hq3, Hq4, Hq5⟩, ⟨Hh0, Hh1⟩, ⟨Hh2, Hh3⟩⟩, ⟨%W, -, HW⟩, ⟨%d0, H0⟩, ⟨%d1, H1⟩, ⟨%d2, H2⟩, ⟨%d3, H3⟩, ⟨%d4, H4⟩⟩
        iapply ((heldRun_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _ _ _ (V m c main_v5) (V m c main_v9) _ _).2.2.2.2.2.2.2.2.2 W _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        isplitl [HS5]; · iexact HS5
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hh0]; · iexact Hh0
        isplitl [Hh1]; · iexact Hh1
        isplitl [Hh2]; · iexact Hh2
        isplitl [Hh3]; · iexact Hh3
        isplitl [HW]; · iexact HW
        iintro ⟨H0, H1, H2, H3, ⟨%e4, H4⟩, HS0, HS1, ⟨%es2, HS2⟩, ⟨%es3, HS3⟩, ⟨%es4, HS4⟩, ⟨%es5, HS5⟩, Hq0, Hq1, Hq2, Hq3, Hq4, Hq5, Hh0, Hh1, Hh2, Hh3, ⟨%W', HW'⟩⟩
        isplitl [HS0 HS1 HS2 HS3 HS4 HS5 Hg Hq0 Hq1 Hq2 Hq3 Hq4 Hq5 Hh0 Hh1 Hh2 Hh3]
        · isplitl [HS0 HS1 HS2 HS3 HS4 HS5]
          · isplitl [HS0]; · iexact HS0
            isplitl [HS1]; · iexact HS1
            isplitl [HS2]
            · unfold owns; iexists _; isplitr
              swap; · iexact HS2
              ipureintro; exact read_of_pieces (held_C_LS2 c _ _ _ _ _ _ _ _ _ _ _ _ _ _ _ _ _ _ _ _ _ _ _ _ _ _ _ _ _ _ _ _ _ _ _ _ _ _ _) (scover0_C_2 c _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact read_of_pieces (held_C_LS3 c _ _ _ _ _ _ _ _ _ _ _ _ _ _ _ _ _ _ _ _ _ _ _ _ _ _ _ _ _ _ _ _ _ _ _ _ _ _ _) (scover0_C_3 c _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact read_of_pieces (held_C_LS4 c _ _ _ _ _ _ _ _ _ _ _ _ _ _ _ _ _ _ _ _ _ _ _ _ _ _ _ _ _ _ _ _ _ _ _ _ _ _ _) (scover0_C_4 c _ _ _ _ _ _ _ _ _ _ _ _ _ _ _ _ _ _ _ _ _ _ _ _ _ _ _ _ _ _ _ _ _ _ _ _ _)
            unfold owns; iexists _; isplitr
            swap; · iexact HS5
            ipureintro; exact read_of_pieces (held_C_LS5 c _ _ _ _ _ _ _ _ _ _ _ _ _ _ _ _ _ _ _ _ _ _ _ _ _ _ _ _ _ _ _ _ _ _ _ _ _ _ _) (scover0_C_5 c _ _ _ _ _ _ _ _ _ _ _ _ _ _ _ _ _ _ _ _ _ _ _ _ _ _ _ _ _ _ _ _ _ _ _ _ _)
          isplitl [Hg]
          · iexact Hg
          isplitl [Hq0 Hq1 Hq2 Hq3 Hq4 Hq5]
          · isplitl [Hq0]; · iexact Hq0
            isplitl [Hq1]; · iexact Hq1
            isplitl [Hq2]; · iexact Hq2
            isplitl [Hq3]; · iexact Hq3
            isplitl [Hq4]; · iexact Hq4
            iexact Hq5
          isplitl [Hh0 Hh1]
          · isplitl [Hh0]; · iexact Hh0
            iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        unfold owns; iexists _; isplitr
        swap; · iexact H4
        ipureintro; exact read_of_pieces (held_C_L4 c _ _ _ _ _ _ _ _ _ _ _ _ _ _ _ _ _ _ _ _ _ _ _ _ _ _ _ _ _ _ _ _ _ _ _ _ _ _ _) (cover0_C_4 c _ _ _ _ _ _ _ _ _ _ _ _ _ _ _ _ _ _ _ _ _ _ _ _ _ _ _ _ _ _ _ _ _ _ _ _ _)
    · by_cases hz : t.val = 0
      · exfalso; have hN : t.val < 64 := lt_of_lt_of_eq t.isLt (show cfg0.N = 64 from N_0); omega
      · rw [PhiS_castSucc m c t, PhiS_pos m c _ _ hz]
        rw [outsAt0_B m c t h0 h1, hv_keep m c t.val h1]
        unfold out0_B_4 sout0_B_0 sout0_B_1 sout0_B_2 sout0_B_3 sout0_B_4 sout0_B_5; (try dsimp only)
        iintro ⟨⟨⟨HS0, HS1, HS2, HS3, HS4, HS5⟩, Hg, ⟨Hq0, Hq1, Hq2, Hq3, Hq4, Hq5⟩, ⟨Hh0, Hh1⟩, ⟨Hh2, Hh3⟩⟩, ⟨%W, -, HW⟩, ⟨%d0, H0⟩, ⟨%d1, H1⟩, ⟨%d2, H2⟩, ⟨%d3, H3⟩, ⟨%d4, H4⟩⟩
        iapply ((heldRun_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _ _ _ (V m c main_v5) (V m c main_v9) _ _).2.2.2.2.2.2.2 W _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        isplitl [HS5]; · iexact HS5
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hh0]; · iexact Hh0
        isplitl [Hh1]; · iexact Hh1
        isplitl [Hh2]; · iexact Hh2
        isplitl [Hh3]; · iexact Hh3
        isplitl [HW]; · iexact HW
        iintro ⟨H0, H1, H2, H3, ⟨%e4, H4⟩, HS0, HS1, HS2, ⟨%es3, HS3⟩, ⟨%es4, HS4⟩, ⟨%es5, HS5⟩, Hq0, Hq1, Hq2, Hq3, Hq4, Hq5, Hh0, Hh1, Hh2, Hh3, ⟨%W', HW'⟩⟩
        isplitl [HS0 HS1 HS2 HS3 HS4 HS5 Hg Hq0 Hq1 Hq2 Hq3 Hq4 Hq5 Hh0 Hh1 Hh2 Hh3]
        · isplitl [HS0 HS1 HS2 HS3 HS4 HS5]
          · isplitl [HS0]; · iexact HS0
            isplitl [HS1]; · iexact HS1
            isplitl [HS2]; · iexact HS2
            isplitl [HS3]
            · unfold owns; iexists _; isplitr
              swap; · iexact HS3
              ipureintro; exact read_of_pieces (held_B_LS3 c _ _ _ _ _ _ _ _ _ _ _ _ _ _ _ _ _ _ _ _ _ _ _ _ _ _ _ _ _ _ _ _ _ _ _ _ _ _ _) (scover0_B_3 c _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact read_of_pieces (held_B_LS4 c _ _ _ _ _ _ _ _ _ _ _ _ _ _ _ _ _ _ _ _ _ _ _ _ _ _ _ _ _ _ _ _ _ _ _ _ _ _ _) (scover0_B_4 c _ _ _ _ _ _ _ _ _ _ _ _ _ _ _ _ _ _ _ _ _ _ _ _ _ _ _ _ _ _ _ _ _ _ _ _ _)
            unfold owns; iexists _; isplitr
            swap; · iexact HS5
            ipureintro; exact read_of_pieces (held_B_LS5 c _ _ _ _ _ _ _ _ _ _ _ _ _ _ _ _ _ _ _ _ _ _ _ _ _ _ _ _ _ _ _ _ _ _ _ _ _ _ _) (scover0_B_5 c _ _ _ _ _ _ _ _ _ _ _ _ _ _ _ _ _ _ _ _ _ _ _ _ _ _ _ _ _ _ _ _ _ _ _ _ _)
          isplitl [Hg]
          · iexact Hg
          isplitl [Hq0 Hq1 Hq2 Hq3 Hq4 Hq5]
          · isplitl [Hq0]; · iexact Hq0
            isplitl [Hq1]; · iexact Hq1
            isplitl [Hq2]; · iexact Hq2
            isplitl [Hq3]; · iexact Hq3
            isplitl [Hq4]; · iexact Hq4
            iexact Hq5
          isplitl [Hh0 Hh1]
          · isplitl [Hh0]; · iexact Hh0
            iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        unfold owns; iexists _; isplitr
        swap; · iexact H4
        ipureintro; exact read_of_pieces (held_B_L4 c _ _ _ _ _ _ _ _ _ _ _ _ _ _ _ _ _ _ _ _ _ _ _ _ _ _ _ _ _ _ _ _ _ _ _ _ _ _ _) (cover0_B_4 c _ _ _ _ _ _ _ _ _ _ _ _ _ _ _ _ _ _ _ _ _ _ _ _ _ _ _ _ _ _ _ _ _ _ _ _ _)

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- `G` at the two results. -/
theorem G_2 (c : Dev nD) : G m c main_v18_1 = (hv m c cfg0.N).1 :=
  (Function.update_of_ne (by decide) _ _).trans (Function.update_self ..)

theorem G_3 (c : Dev nD) : G m c main_v18_2 = (hv m c cfg0.N).2 := Function.update_self ..

/-- The invariant at any position but the first, listed. -/
theorem Phi_pos (c : Dev nD) (t : Fin (cfg0.N + 1)) (ht : t.val ≠ 0) : (dats m 0 c).Φ t
      = iprop(iprop(owns (c : Thread nD τ) scM0_0 fullShare ((outsAt0 m c (t.val - 1) (by omega)).2.1) ∗ owns (c : Thread nD τ) scM0_1 fullShare ((outsAt0 m c (t.val - 1) (by omega)).2.2.1) ∗ owns (c : Thread nD τ) scM0_2 fullShare ((outsAt0 m c (t.val - 1) (by omega)).2.2.2.1) ∗ owns (c : Thread nD τ) scM0_3 fullShare ((outsAt0 m c (t.val - 1) (by omega)).2.2.2.2.1) ∗ owns (c : Thread nD τ) scM0_4 fullShare ((outsAt0 m c (t.val - 1) (by omega)).2.2.2.2.2.1) ∗ owns (c : Thread nD τ) scM0_5 fullShare ((outsAt0 m c (t.val - 1) (by omega)).2.2.2.2.2.2)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_v5) ∗ hbPt0 c hbM0_1 (V m c main_v9)) ∗ iprop(hbPt0 c hbM0_2 (hv m c t.val).1 ∗ hbPt0 c hbM0_3 (hv m c t.val).2)) := by
  rw [show (dats m 0 c).Φ t = PhiS m c t.val (Nat.le_of_lt_succ t.isLt) from rfl, PhiS_pos m c _ _ ht]

/-- What the launch hands the region is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS]

/-- After the last point the invariant gives the launch's back, with the two results at `G`. -/
theorem hout (c : Dev nD) : (dats m 0 c).Φ (Fin.last cfg0.N) ⊢ Pipeline.ΦDRG osem0 spec0 H0 R0 (V m) (G m) c := by
  rw [Phi_pos m c (Fin.last cfg0.N) (by rw [Fin.val_last]; have : cfg0.N = 64 := N_0; omega), PhiDRG_eq, G_2, G_3]
  iintro ⟨⟨HS0, HS1, HS2, HS3, HS4, HS5⟩, Hg, ⟨Hq0, Hq1, Hq2, Hq3, Hq4, Hq5⟩, ⟨Hh0, Hh1⟩, ⟨Hh2, Hh3⟩⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  isplitl [Hg]; · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0 Hh1]
  · isplitl [Hh0]; · iexact Hh0
    iexact Hh1
  isplitl [Hh2]; · iexact Hh2
  iexact Hh3

/-! ## The run and the frame -/

set_option backward.isDefEq.respectTransparency.types false in
/-- Every weakly fair execution from any memory with zero counters terminates; at the end every staged array is at what the
    proof data computes, the two results in HBM are at `G`, every other buffer is at its contents at the region's entry, and
    every semaphore counter is at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := hin m) (hout := hout m)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1.toR) (run_main m ρ))

/-- The frame: every execution terminates with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main m ρ))

end Cert.KernelIdeal.Held

end
-- ==== Proof.Left.lean ====
module

public import proofs.«01_k».proof.Proof.Blocks
public import proofs.«01_k».proof.Proof.Held

@[expose] public section
set_option maxRecDepth 16384
noncomputable section
namespace Cert.KernelIdeal.Blocks
open Cert.KernelIdeal Cert.KernelIdeal.Gen Cert.KernelIdeal.Body Cert.KernelIdeal.Host Idealize.ShloMosaic Idealize.ShloMosaic.TcCoe Idealize.SL.Sem Cert.Ffn

/-- A copy into part of an array leaves, at an index of the part, what was copied there. -/
theorem put_hit (b : Ref sig .tc) (off size : Fin b.ty.shape.rank → Nat) (inb : ∀ a, off a + size a ≤ b.ty.shape.size a)
    (f : b.ty.Contents (Elt Ideal)) (w : (Rect.unit off size inb).shape.Idx → Elt Ideal b.ty.elt)
    (j : (Rect.unit off size inb).shape.Idx) (i : b.ty.shape.Idx)
    (o : Fin b.ty.shape.rank → Nat) (ho : off = o) (hi : ∀ a, (i a).val = o a + (j a).val) :
    ((View.whole b).slice (Rect.unit off size inb)).write (Elt Ideal) f w Finset.univ i = w j := by
  subst ho
  have hy : ((View.whole b).slice (Rect.unit off size inb)).emb j = i := by
    funext a
    refine Fin.ext ?_
    rw [View.emb_slice, Function.Embedding.trans_apply, View.emb_whole, Function.Embedding.refl_apply, Rect.emb_apply, hi a]
    show off a + 1 * (j a).val = _
    omega
  rw [← hy, View.write_emb_of_mem _ _ (Finset.mem_univ _)]
  rfl

/-- A copy into part of an array leaves the rest. -/
theorem put_miss (b : Ref sig .tc) (off size : Fin b.ty.shape.rank → Nat) (inb : ∀ a, off a + size a ≤ b.ty.shape.size a)
    (f : b.ty.Contents (Elt Ideal)) (w : (Rect.unit off size inb).shape.Idx → Elt Ideal b.ty.elt) (i : b.ty.shape.Idx)
    (o : Fin b.ty.shape.rank → Nat) (ho : off = o) (a : Fin b.ty.shape.rank) (hi : (i a).val < o a ∨ o a + size a ≤ (i a).val) :
    ((View.whole b).slice (Rect.unit off size inb)).write (Elt Ideal) f w Finset.univ i = f i := by
  subst ho
  refine View.write_of_not_mem _ _ _ fun hmem => ?_
  rw [View.setOn_univ, View.set_slice, Finset.mem_map] at hmem
  obtain ⟨j, hj, rfl⟩ := hmem
  rw [View.emb_whole, Function.Embedding.refl_apply] at hi
  have := (Rect.mem_set_unit (inb := inb)).mp hj a
  omega

/-- A store of the whole weight scratch leaves what was stored. -/
theorem read_top (v : View sig .tc .vmem S2x704x1024 .bf16) (f : v.ty.Contents (Elt Ideal)) (w : S2x704x1024.Idx → Elt Ideal .bf16)
    (L : List (View.Piece (Elt Ideal) S2x704x1024 .bf16)) (y : S2x704x1024.Idx) :
    v.read (Elt Ideal) (v.writes (Elt Ideal) f (⟨Rect.unit ![0, 0, 0] S2x704x1024.size inb_S2x704x1024_S2x704x1024_0_0_0, w⟩ :: L)) y = w y := by
  have e : (Rect.unit ![0, 0, 0] S2x704x1024.size inb_S2x704x1024_S2x704x1024_0_0_0).emb y = y := by
    funext a
    refine Fin.ext ?_
    rw [Rect.emb_apply]
    match a with
    | ⟨0, _⟩ => show 0 + 1 * _ = _; omega
    | ⟨1, _⟩ => show 0 + 1 * _ = _; omega
    | ⟨2, _⟩ => show 0 + 1 * _ = _; omega
  have h := View.read_writes_cons_emb v f (Rect.unit ![0, 0, 0] S2x704x1024.size inb_S2x704x1024_S2x704x1024_0_0_0) w L y
  rwa [e] at h

/-- A load of a whole accumulator reads what the stores left. -/
theorem cov_whole (v : View sig .tc .vmem S2x704x1024 .f32) (L : List (View.Piece (Elt Ideal) S2x704x1024 .f32)) (y : S2x704x1024.Idx) :
    v.readCov L (Rect.unit ![0, 0, 0] S2x704x1024.size inb_S2x704x1024_S2x704x1024_0_0_0).toLoadRect y = View.canon L y := by
  rw [View.readCov_eq_canon']
  have e : (Rect.unit ![0, 0, 0] S2x704x1024.size inb_S2x704x1024_S2x704x1024_0_0_0).toLoadRect.idx y = y := by
    funext a
    refine Fin.ext ?_
    match a with
    | ⟨0, _⟩ => show 0 + 1 * _ = _; omega
    | ⟨1, _⟩ => show 0 + 1 * _ = _; omega
    | ⟨2, _⟩ => show 0 + 1 * _ = _; omega
  show View.canon L _ = _
  rw [e]

variable (m : (ℓ : Loc nD τ sig) → Buf (Elt Ideal) ℓ) (c : Dev nD)

set_option maxHeartbeats 2000000 in
/-- The last point of a half copies its finished gradient of the gate's weights into the upper rows of its blocks. -/
theorem left2_up (t : Fin cfg0.N) (h0 : ¬t.val % 32 = 0) (h1 : t.val % 32 = 31) (f2 : HbBuf0 (F := Ideal) c hbM0_2) (f3 : HbBuf0 (F := Ideal) c hbM0_3) (b : Fin 2) (r : Fin 704) (d : Fin 1024) :
    Held.left2 m c t h0 h1 f2 f3 (ix3 (block t b) (⟨r.val, by omega⟩ : Fin 1408) d)
      = (outsAt0 m c (t.val - 1) (Nat.lt_of_le_of_lt (Nat.sub_le _ _) t.isLt)).2.2.2.2.1 (ix3 b r d) + addG (iblk m c 0 t) (iblk m c 1 t) (iblk m c 2 t) (iblk m c 3 t) (outsAt0 m c (t.val - 1) (Nat.lt_of_le_of_lt (Nat.sub_le _ _) t.isLt)).2.2.2.1 b r d := by
  unfold Held.left2 heldRun_C
  dsimp only
  unfold heldRun_C.sl.Hh2_w1
  refine (put_miss main_v18_1 _ _ _ _ _ _ _ (offs t).2.2.2.2.1 1 (Or.inl r.isLt)).trans ?_
  unfold heldRun_C.sl.Hh2_w0
  refine (put_hit main_v18_1 _ _ _ _ _ (ix3 b r d) _ _ (offs t).2.2.2.1 fun a => ?_).trans ?_
  · match a with
    | ⟨0, _⟩ => rfl
    | ⟨1, _⟩ => exact (Nat.zero_add _).symm
    | ⟨2, _⟩ => exact (Nat.zero_add _).symm
  unfold heldRun_C.sl.dma35
  unfold heldRun_C.sl.HS2_1
  refine (read_top _ _ _ _ _).trans ?_
  pointwise [k0_pay3]
  sl_unfold_words
  simp (disch := decide) only [↓ View.readCov_skip, ↓ View.readCov_cons_toLoadRect, ↓ View.readCov_fill, ↓ readCov_whole, ↓ canon_whole]
  frame_out
  refine (cov_whole _ _ _).trans ?_
  fin_cases b
  · refine (canon_zero _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [read_unread_whole]
    rfl
  · refine (canon_one _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [read_unread_whole]
    rfl

set_option maxHeartbeats 2000000 in
/-- The last point of a half copies its finished gradient of the other factor's weights into the lower rows of its blocks. -/
theorem left2_low (t : Fin cfg0.N) (h0 : ¬t.val % 32 = 0) (h1 : t.val % 32 = 31) (f2 : HbBuf0 (F := Ideal) c hbM0_2) (f3 : HbBuf0 (F := Ideal) c hbM0_3) (b : Fin 2) (r : Fin 704) (d : Fin 1024) :
    Held.left2 m c t h0 h1 f2 f3 (ix3 (block t b) (⟨704 + r.val, by omega⟩ : Fin 1408) d)
      = (outsAt0 m c (t.val - 1) (Nat.lt_of_le_of_lt (Nat.sub_le _ _) t.isLt)).2.2.2.2.2.1 (ix3 b r d) + addU (iblk m c 0 t) (iblk m c 1 t) (iblk m c 2 t) (outsAt0 m c (t.val - 1) (Nat.lt_of_le_of_lt (Nat.sub_le _ _) t.isLt)).2.2.2.1 b r d := by
  unfold Held.left2 heldRun_C
  dsimp only
  unfold heldRun_C.sl.Hh2_w1
  refine (put_hit main_v18_1 _ _ _ _ _ (ix3 b r d) _ _ (offs t).2.2.2.2.1 fun a => ?_).trans ?_
  · match a with
    | ⟨0, _⟩ => rfl
    | ⟨1, _⟩ => rfl
    | ⟨2, _⟩ => exact (Nat.zero_add _).symm
  unfold heldRun_C.sl.dma38
  unfold heldRun_C.sl.HS2_2
  refine (read_top _ _ _ _ _).trans ?_
  pointwise [k0_pay4]
  sl_unfold_words
  simp (disch := decide) only [↓ View.readCov_skip, ↓ View.readCov_cons_toLoadRect, ↓ View.readCov_fill, ↓ readCov_whole, ↓ canon_whole]
  frame_out
  refine (cov_whole _ _ _).trans ?_
  fin_cases b
  · refine (canon_zero _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [read_unread_whole]
    rfl
  · refine (canon_one _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [read_unread_whole]
    rfl

set_option maxHeartbeats 2000000 in
/-- The last point of a half copies its finished gradient of the last product's weights into its blocks. -/
theorem left3_all (t : Fin cfg0.N) (h0 : ¬t.val % 32 = 0) (h1 : t.val % 32 = 31) (f2 : HbBuf0 (F := Ideal) c hbM0_2) (f3 : HbBuf0 (F := Ideal) c hbM0_3) (b : Fin 2) (r : Fin 704) (d : Fin 1024) :
    Held.left3 m c t h0 h1 f2 f3 (ix3 (block t b) r d)
      = (outsAt0 m c (t.val - 1) (Nat.lt_of_le_of_lt (Nat.sub_le _ _) t.isLt)).2.2.2.2.2.2 (ix3 b r d) + addD (iblk m c 1 t) (iblk m c 2 t) (iblk m c 3 t) b r d := by
  unfold Held.left3 heldRun_C
  dsimp only
  unfold heldRun_C.sl.Hh3_w2
  refine (put_hit main_v18_2 _ _ _ _ _ (ix3 b r d) _ _ (offs t).2.2.2.2.2 fun a => ?_).trans ?_
  · match a with
    | ⟨0, _⟩ => rfl
    | ⟨1, _⟩ => exact (Nat.zero_add _).symm
    | ⟨2, _⟩ => exact (Nat.zero_add _).symm
  unfold heldRun_C.sl.dma41
  unfold heldRun_C.sl.HS2_3
  refine (read_top _ _ _ _ _).trans ?_
  pointwise [k0_pay5]
  sl_unfold_words
  simp (disch := decide) only [↓ View.readCov_skip, ↓ View.readCov_cons_toLoadRect, ↓ View.readCov_fill, ↓ readCov_whole, ↓ canon_whole]
  frame_out
  refine (cov_whole _ _ _).trans ?_
  fin_cases b
  · refine (canon_zero _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [read_unread_whole]
    rfl
  · refine (canon_one _ _ _ r d).trans ?_
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [read_unread_whole]
    rfl

/-- Blocks of the other half keep their rows of the two gates' gradients. -/
theorem left2_rest (t : Fin cfg0.N) (h0 : ¬t.val % 32 = 0) (h1 : t.val % 32 = 31) (f2 : HbBuf0 (F := Ideal) c hbM0_2) (f3 : HbBuf0 (F := Ideal) c hbM0_3) (n : Fin 4) (hn : n.val / 2 ≠ t.val / 32) (r : Fin 1408) (d : Fin 1024) :
    Held.left2 m c t h0 h1 f2 f3 (ix3 n r d) = f2 (ix3 n r d) := by
  have hn' : n.val < 2 * (t.val / 32) ∨ 2 * (t.val / 32) + 2 ≤ n.val := by omega
  unfold Held.left2 heldRun_C
  dsimp only
  unfold heldRun_C.sl.Hh2_w1
  refine (put_miss main_v18_1 _ _ _ _ _ _ _ (offs t).2.2.2.2.1 0 hn').trans ?_
  unfold heldRun_C.sl.Hh2_w0
  exact put_miss main_v18_1 _ _ _ _ _ _ _ (offs t).2.2.2.1 0 hn'

/-- Blocks of the other half keep their rows of the last product's gradient. -/
theorem left3_rest (t : Fin cfg0.N) (h0 : ¬t.val % 32 = 0) (h1 : t.val % 32 = 31) (f2 : HbBuf0 (F := Ideal) c hbM0_2) (f3 : HbBuf0 (F := Ideal) c hbM0_3) (n : Fin 4) (hn : n.val / 2 ≠ t.val / 32) (r : Fin 704) (d : Fin 1024) :
    Held.left3 m c t h0 h1 f2 f3 (ix3 n r d) = f3 (ix3 n r d) := by
  have hn' : n.val < 2 * (t.val / 32) ∨ 2 * (t.val / 32) + 2 ≤ n.val := by omega
  unfold Held.left3 heldRun_C
  dsimp only
  unfold heldRun_C.sl.Hh3_w2
  exact put_miss main_v18_2 _ _ _ _ _ _ _ (offs t).2.2.2.2.2 0 hn'

end Cert.KernelIdeal.Blocks
-- ==== Proof.Results.lean ====
/-
The three arrays the kernel leaves: the gradient of the tokens through each half of the hidden columns, and the gradients of
the weights, which the last point of each half copies out of its scratch.
-/
module

public import proofs.«01_k».proof.Proof.Points
public import proofs.«01_k».proof.Proof.Left
public import proofs.«01_k».proof.Proof.Gen.KernelIdeal.Value

@[expose] public section
set_option maxRecDepth 16384
noncomputable section
namespace Cert.KernelIdeal.Blocks
open Cert.KernelIdeal Cert.KernelIdeal.Gen Cert.KernelIdeal.Body Cert.KernelIdeal.Host Idealize.ShloMosaic Idealize.ShloMosaic.TcCoe Idealize.SL.Sem Cert.Ffn
open Idealize.ShloMosaic.Pipeline (Dat)

variable (m : (ℓ : Loc nD τ sig) → Buf (Elt Ideal) ℓ) (c : Dev nD)

/-- What the point before the last point of a half left. -/
theorem inv_before (t : Fin cfg0.N) (h0 : ¬t.val % 32 = 0) : Inv m c (prev t) :=
  inv m c (prev t).val (prev t).isLt (by have := prev_mod t h0; have := (tile t).isLt; omega)

theorem upTo_last (M : Fin 32 → EReal) (t : Fin cfg0.N) (h1 : t.val % 32 = 31) : upTo M (tile t).val + M (tile t) = ∑ i, M i := by
  rw [← upTo_succ, ← upTo_all, show (tile t).val + 1 = 32 from congrArg (· + 1) h1]

/-- What the last point of a half copies out for the gate's weights. -/
theorem last_gate (t : Fin cfg0.N) (h0 : ¬t.val % 32 = 0) (h1 : t.val % 32 = 31) (f2 : HbBuf0 (F := Ideal) c hbM0_2) (f3 : HbBuf0 (F := Ideal) c hbM0_3) (b : Fin 2) (r : Fin 704) (d : Fin 1024) :
    Held.left2 m c t h0 h1 f2 f3 (ix3 (block t b) (⟨r.val, by omega⟩ : Fin 1408) d)
      = dWg (H m c) (Wg m c) (Wu m c) (Wd m c) (Do m c) (col (block t b) r) d := by
  obtain ⟨-, -, hw, fg, -, -⟩ := (inv_before m c t h0).found h0
  refine (left2_up m c t h0 h1 f2 f3 b r d).trans ?_
  refine (congrArg₂ (· + ·) (fg b r d) (addG_eq hw b r d)).trans ?_
  rw [upTo_last _ t h1, dWg, sum_tiles]
  rfl

/-- What the last point of a half copies out for the other factor's weights. -/
theorem last_factor (t : Fin cfg0.N) (h0 : ¬t.val % 32 = 0) (h1 : t.val % 32 = 31) (f2 : HbBuf0 (F := Ideal) c hbM0_2) (f3 : HbBuf0 (F := Ideal) c hbM0_3) (b : Fin 2) (r : Fin 704) (d : Fin 1024) :
    Held.left2 m c t h0 h1 f2 f3 (ix3 (block t b) (⟨704 + r.val, by omega⟩ : Fin 1408) d)
      = dWu (H m c) (Wg m c) (Wd m c) (Do m c) (col (block t b) r) d := by
  obtain ⟨-, -, hw, -, fu, -⟩ := (inv_before m c t h0).found h0
  refine (left2_low m c t h0 h1 f2 f3 b r d).trans ?_
  refine (congrArg₂ (· + ·) (fu b r d) (addU_eq hw b r d)).trans ?_
  rw [upTo_last _ t h1, dWu, sum_tiles]
  rfl

/-- What the last point of a half copies out for the last product's weights. -/
theorem last_down (t : Fin cfg0.N) (h0 : ¬t.val % 32 = 0) (h1 : t.val % 32 = 31) (f2 : HbBuf0 (F := Ideal) c hbM0_2) (f3 : HbBuf0 (F := Ideal) c hbM0_3) (b : Fin 2) (r : Fin 704) (d : Fin 1024) :
    Held.left3 m c t h0 h1 f2 f3 (ix3 (block t b) r d) = dWd (H m c) (Wg m c) (Wu m c) (Do m c) (col (block t b) r) d := by
  obtain ⟨-, -, -, -, -, fd⟩ := (inv_before m c t h0).found h0
  refine (left3_all m c t h0 h1 f2 f3 b r d).trans ?_
  refine (congrArg₂ (· + ·) (fd b r d) (addD_eq b r d)).trans ?_
  rw [upTo_last _ t h1, dWd, sum_tiles]
  rfl

/-- Before the last point of a half, and after it, nothing is copied. -/
theorem hv_same (n : ℕ) : ∀ k, (∀ j < k, ¬(n + j) % 32 = 31) → Held.hv m c (n + k) = Held.hv m c n
  | 0, _ => rfl
  | k + 1, h => (Held.hv_keep m c (n + k) (h k (Nat.lt_succ_self k))).trans (hv_same n k fun j hj => h j (Nat.lt_succ_of_lt hj))

/-- The last point of the first half. -/
def mid : Fin cfg0.N := ⟨31, by rw [show cfg0.N = 64 from N_0]; omega⟩

/-- The last point of the second half. -/
def fin : Fin cfg0.N := ⟨63, by rw [show cfg0.N = 64 from N_0]; omega⟩

theorem hv_end : Held.hv m c cfg0.N
    = (Held.left2 m c fin (by decide) (by decide) (Held.hv m c (mid.val + 1)).1 (Held.hv m c (mid.val + 1)).2,
        Held.left3 m c fin (by decide) (by decide) (Held.hv m c (mid.val + 1)).1 (Held.hv m c (mid.val + 1)).2) := by
  rw [← hv_same m c (mid.val + 1) 31 fun j hj => by show ¬(32 + j) % 32 = 31; omega]
  refine Eq.trans ?_ (Held.hv_last m c fin (by decide) (by decide))
  exact congrArg (Held.hv m c) N_0

/-- A block of hidden columns belongs to the first half or to the second. -/
theorem block_cases {P : Fin 4 → Prop} (a : ∀ b, P (block mid b)) (z : ∀ b, P (block fin b)) : ∀ n, P n
  | ⟨0, _⟩ => a 0
  | ⟨1, _⟩ => a 1
  | ⟨2, _⟩ => z 0
  | ⟨3, _⟩ => z 1

theorem block_mid (b : Fin 2) : (block mid b).val / 2 ≠ fin.val / 32 := by
  show (2 * 0 + b.val) / 2 ≠ 1
  omega

/-- The gradients of the gate's and of the other factor's weights, in the result of both. -/
theorem result_gates (n : Fin 4) (r : Fin 1408) (d : Fin 1024) :
    (Held.hv m c cfg0.N).1 (ix3 n r d) = dWgu (H m c) (Wg m c) (Wu m c) (Wd m c) (Do m c) n r d := by
  rw [hv_end]
  dsimp only
  revert n r
  refine block_cases (fun b => row_cases (fun r => ?_) fun r => ?_) (fun b => row_cases (fun r => ?_) fun r => ?_)
  · refine (left2_rest m c fin _ _ _ _ _ (block_mid b) _ d).trans ?_
    rw [Held.hv_last m c mid (by decide) (by decide)]
    dsimp only
    rw [dWgu_up]
    exact last_gate m c mid _ _ _ _ b r d
  · refine (left2_rest m c fin _ _ _ _ _ (block_mid b) _ d).trans ?_
    rw [Held.hv_last m c mid (by decide) (by decide)]
    dsimp only
    rw [dWgu_low]
    exact last_factor m c mid _ _ _ _ b r d
  · rw [dWgu_up]
    exact last_gate m c fin _ _ _ _ b r d
  · rw [dWgu_low]
    exact last_factor m c fin _ _ _ _ b r d

/-- The gradient of the last product's weights, in its result. -/
theorem result_down (n : Fin 4) (r : Fin 704) (d : Fin 1024) :
    (Held.hv m c cfg0.N).2 (ix3 n r d) = dWd (H m c) (Wg m c) (Wu m c) (Do m c) (col n r) d := by
  rw [hv_end]
  dsimp only
  revert n
  refine block_cases (fun b => ?_) fun b => ?_
  · refine (left3_rest m c fin _ _ _ _ _ (block_mid b) _ d).trans ?_
    rw [Held.hv_last m c mid (by decide) (by decide)]
    dsimp only
    exact last_down m c mid _ _ _ _ b r d
  · exact last_down m c fin _ _ _ _ b r d

/-- The gradient of the tokens through each half of the hidden columns, as an array. -/
def tokenGrad : Vec Ideal S2x16384x1024 .bf16 := fun i => dTok (H m c) (Wg m c) (Wu m c) (Wd m c) (Do m c) (i 0) (i 1) (i 2)

/-- The result whose blocks the points write back one by one. -/
theorem result_tokens : (Held.dats m 0 c).arrAt 4 cfg0.N = tokenGrad m c := by
  refine Dat.arrAt_eq_of_covers (Held.dats m 0 c) 4 _ (by decide +kernel) fun t hf y => ?_
  blk_simp
  rw [Held.after0_4]
  obtain ⟨s, d, rfl⟩ : ∃ (s : Fin 512) (d : Fin 1024), y = ix3 (0 : Fin 1) s d := by
    refine ⟨y 1, y 2, funext fun a => ?_⟩
    match a with
    | ⟨0, _⟩ => exact Fin.ext (by have : (y 0).val < 1 := (y 0).isLt; show (y 0).val = 0; omega)
    | ⟨1, _⟩ => rfl
    | ⟨2, _⟩ => rfl
  refine (out_tokens m c t s d).trans ?_
  have e := (idx t).2.2.2.2
  have e0 : (win0_4.blk t).view.emb (ix3 (0 : Fin 1) s d) 0 = half t := by
    refine Fin.ext ?_
    blk_simp [e]
    exact Nat.add_zero _
  have e1 : (win0_4.blk t).view.emb (ix3 (0 : Fin 1) s d) 1 = row (tile t) s := by
    refine Fin.ext ?_
    blk_simp [e]
    rfl
  have e2 : (win0_4.blk t).view.emb (ix3 (0 : Fin 1) s d) 2 = d := by
    refine Fin.ext ?_
    blk_simp [e]
  rw [tokenGrad, e0, e1, e2]

end Cert.KernelIdeal.Blocks
-- ==== Proof.Entries.lean ====
/-
The reference's results, entry by entry, as the sums of Spec: it differentiates the whole gated product, and each half of its
hidden columns for the gradient of the tokens.
-/
module

public import proofs.«01_k».proof.Proof.Spec
public import proofs.«01_k».proof.Proof.Gen.ReferenceIdeal.Run
public import proofs.«01_k».proof.Proof.Gen.ReferenceIdeal.Read
public import Idealize.ShloMosaic.Lib.Pipeline.ValueKit

@[expose] public section
set_option maxRecDepth 16384
noncomputable section
namespace Cert.ReferenceIdeal.Entries
open Cert.ReferenceIdeal Cert.ReferenceIdeal.Gen Cert.ReferenceIdeal.Value Cert.ReferenceIdeal.Read Idealize.ShloMosaic Idealize.ShloMosaic.TcCoe Idealize.SL.Sem Cert.Ffn

variable (x0 x4 : (⟨S16384x1024, .f32⟩ : BufTy).Contents (Elt Ideal)) (x1 x2 : (⟨S1024x2816, .f32⟩ : BufTy).Contents (Elt Ideal)) (x3 : (⟨S2816x1024, .f32⟩ : BufTy).Contents (Elt Ideal))

/-- The tokens, or the incoming gradient, as a matrix. -/
abbrev mt (x : (⟨S16384x1024, .f32⟩ : BufTy).Contents (Elt Ideal)) (s : Fin 16384) (d : Fin 1024) : EReal := x (ix2 s d)

/-- A weight matrix of the gated product. -/
abbrev mw (x : (⟨S1024x2816, .f32⟩ : BufTy).Contents (Elt Ideal)) (d : Fin 1024) (f : Fin 2816) : EReal := x (ix2 d f)

/-- The weight matrix of the last product. -/
abbrev md (x : (⟨S2816x1024, .f32⟩ : BufTy).Contents (Elt Ideal)) (f : Fin 2816) (d : Fin 1024) : EReal := x (ix2 f d)

theorem gate_in (s : Fin 16384) (f : Fin 2816) : val_main_v0 x0 x1 (ix2 s f) = proj (mt x0) (mw x1) s f := by
  pointwise [val_main_v0]
  rfl

theorem factor_in (s : Fin 16384) (f : Fin 2816) : val_main_v2 x0 x2 (ix2 s f) = proj (mt x0) (mw x2) s f := by
  pointwise [val_main_v2]
  rfl

theorem da_at (s : Fin 16384) (f : Fin 2816) : val_main_v7 x3 x4 (ix2 s f) = dact (md x3) (mt x4) s f := by
  pointwise [val_main_v7]
  rfl

theorem gate_sig (s : Fin 16384) (f : Fin 2816) : val_main_v1_2 x0 x1 (ix2 s f) = Ffn.sig (proj (mt x0) (mw x1) s f) := by
  rw [sig_eq, ← gate_in]
  pointwise [val_main_v1_2, val_main_call0_v0, val_main_call0_v1, val_main_call0_v2, val_main_call0_v3, val_main_call0_v4, val_main_call0_cst, val_main_call0_cst_0]
  rfl

theorem gate_slope (s : Fin 16384) (f : Fin 2816) : val_main_v1_1 x0 x1 (ix2 s f)
    = Ffn.sig (proj (mt x0) (mw x1) s f) * (1 - Ffn.sig (proj (mt x0) (mw x1) s f)) := by
  rw [← gate_sig]
  pointwise [val_main_v1_1, val_main_call0_v6, val_main_call0_v7, val_main_call0_cst_1]

theorem act_at (s : Fin 16384) (f : Fin 2816) : val_main_v3 x0 x1 x2 (ix2 s f) = actAt (proj (mt x0) (mw x1) s f) (proj (mt x0) (mw x2) s f) := by
  show val_main_v0 x0 x1 (ix2 s f) * val_main_v1_2 x0 x1 (ix2 s f) * val_main_v2 x0 x2 (ix2 s f) = _
  rw [gate_in, gate_sig, factor_in, actAt]

/-- The gradient of the last product's weights. -/
theorem down_at (f : Fin 2816) (d : Fin 1024) : val_main_v6 x0 x1 x2 x4 (ix2 f d) = dWd (mt x0) (mw x1) (mw x2) (mt x4) f d := by
  pointwise [val_main_v6, val_main_v5]
  refine Finset.sum_congr rfl fun s _ => ?_
  rw [act_at, mul_comm]

theorem dup_at (s : Fin 16384) (f : Fin 2816) : val_main_v8 x0 x1 x3 x4 (ix2 s f) = dup (mt x0) (mw x1) (md x3) (mt x4) s f := by
  show val_main_v0 x0 x1 (ix2 s f) * val_main_v1_2 x0 x1 (ix2 s f) * val_main_v7 x3 x4 (ix2 s f) = _
  rw [gate_in, gate_sig, da_at, dup, dupAt, mul_comm]

/-- The gradient of the other factor's weights. -/
theorem factor_at (f : Fin 2816) (d : Fin 1024) : val_main_v54 x0 x1 x3 x4 (ix2 f d) = dWu (mt x0) (mw x1) (md x3) (mt x4) f d := by
  pointwise [val_main_v54, val_main_v11, val_main_v10]
  refine Finset.sum_congr rfl fun s _ => ?_
  rw [dup_at]

variable (h0 : ∀ s d, IsReal (mt x0 s d)) (h2 : ∀ d f, IsReal (mw x2 d f)) (h3 : ∀ f d, IsReal (md x3 f d)) (h4 : ∀ s d, IsReal (mt x4 s d))

include h0 h2 h3 h4 in
/-- The product rule's sum at one element is the kernel's product: the common factor is real. -/
theorem gate_sum (s : Fin 16384) (f : Fin 2816) (g : EReal) :
    dact (md x3) (mt x4) s f * proj (mt x0) (mw x2) s f * Ffn.sig g + g * (dact (md x3) (mt x4) s f * proj (mt x0) (mw x2) s f) * (Ffn.sig g * (1 - Ffn.sig g))
      = dgateAt g (proj (mt x0) (mw x2) s f) (dact (md x3) (mt x4) s f) := by
  obtain ⟨c, hc⟩ : IsReal (dact (md x3) (mt x4) s f * proj (mt x0) (mw x2) s f) :=
    IsReal.mul (IsReal.sum _ _ fun d => (h4 s d).mul (h3 f d)) (IsReal.sum _ _ fun d => (h0 s d).mul (h2 d f))
  rw [dgateAt, hc, gate_rule, sig_eq]

include h0 h2 h3 h4 in
theorem dgate_at (s : Fin 16384) (f : Fin 2816) :
    val_main_v13 x0 x1 x2 x3 x4 (ix2 s f) = dgate (mt x0) (mw x1) (mw x2) (md x3) (mt x4) s f := by
  show val_main_v7 x3 x4 (ix2 s f) * val_main_v2 x0 x2 (ix2 s f) * val_main_v1_2 x0 x1 (ix2 s f)
    + val_main_v0 x0 x1 (ix2 s f) * (val_main_v7 x3 x4 (ix2 s f) * val_main_v2 x0 x2 (ix2 s f)) * val_main_v1_1 x0 x1 (ix2 s f) = _
  rw [gate_in, factor_in, gate_slope, gate_sig, da_at]
  exact gate_sum x0 x4 x2 x3 h0 h2 h3 h4 s f _

include h0 h2 h3 h4 in
/-- The gradient of the gate's weights. -/
theorem gate_at (f : Fin 2816) (d : Fin 1024) : val_main_v52 x0 x1 x2 x3 x4 (ix2 f d) = dWg (mt x0) (mw x1) (mw x2) (md x3) (mt x4) f d := by
  pointwise [val_main_v52, val_main_v15, val_main_v14]
  refine Finset.sum_congr rfl fun s _ => ?_
  rw [dgate_at x0 x4 x1 x2 x3 h0 h2 h3 h4]

/-! ## Halves of the hidden columns -/

/-- A hidden column by its half and its place there. -/
def column (p : Fin 2) (k : Fin 1408) : Fin 2816 := ⟨1408 * p.val + k.val, by omega⟩

theorem first_column (k : Fin 1408) (hk : k.val < 2816) : (⟨k.val, hk⟩ : Fin 2816) = column 0 k :=
  Fin.ext (show k.val = 1408 * 0 + k.val by omega)

theorem column_up (p : Fin 2) (f : Fin 704) : column p ⟨f.val, by omega⟩ = col ⟨2 * p.val, by omega⟩ f :=
  Fin.ext (show 1408 * p.val + f.val = 2 * p.val * 704 + f.val by omega)

theorem column_low (p : Fin 2) (f : Fin 704) : column p ⟨704 + f.val, by omega⟩ = col ⟨2 * p.val + 1, by omega⟩ f :=
  Fin.ext (show 1408 * p.val + (704 + f.val) = (2 * p.val + 1) * 704 + f.val by omega)

/-- A half's two sums over its columns are its two blocks' four sums. -/
theorem halves (h : Fin 16384 → Fin 1024 → EReal) (wg wu : Fin 1024 → Fin 2816 → EReal) (wd : Fin 2816 → Fin 1024 → EReal)
    (g : Fin 16384 → Fin 1024 → EReal) (p : Fin 2) (s : Fin 16384) (d : Fin 1024) :
    (∑ f : Fin 704, dup h wg wd g s (column p ⟨f.val, by omega⟩) * wu d (column p ⟨f.val, by omega⟩)
        + ∑ f : Fin 704, dup h wg wd g s (column p ⟨704 + f.val, by omega⟩) * wu d (column p ⟨704 + f.val, by omega⟩))
      + (∑ f : Fin 704, dgate h wg wu wd g s (column p ⟨f.val, by omega⟩) * wg d (column p ⟨f.val, by omega⟩)
        + ∑ f : Fin 704, dgate h wg wu wd g s (column p ⟨704 + f.val, by omega⟩) * wg d (column p ⟨704 + f.val, by omega⟩))
      = dTok h wg wu wd g p s d := by
  simp only [column_up, column_low, dTok]
  ac_rfl

/-! ## The first half -/

theorem gate_in_0 (s : Fin 16384) (k : Fin 1408) : val_main_v21 x0 x1 (ix2 s k) = proj (mt x0) (mw x1) s (column 0 k) := by
  pointwise [val_main_v21, val_main_v18]
  simp only [first_column]
  rfl

theorem factor_in_0 (s : Fin 16384) (k : Fin 1408) : val_main_v23 x0 x2 (ix2 s k) = proj (mt x0) (mw x2) s (column 0 k) := by
  pointwise [val_main_v23, val_main_v19]
  simp only [first_column]
  rfl

theorem da_at_0 (s : Fin 16384) (k : Fin 1408) : val_main_v26 x3 x4 (ix2 s k) = dact (md x3) (mt x4) s (column 0 k) := by
  pointwise [val_main_v26, val_main_v20]
  simp only [first_column]
  rfl

theorem gate_sig_0 (s : Fin 16384) (k : Fin 1408) : val_main_v22_2 x0 x1 (ix2 s k) = Ffn.sig (proj (mt x0) (mw x1) s (column 0 k)) := by
  rw [sig_eq, ← gate_in_0]
  pointwise [val_main_v22_2, val_main_call2_v0, val_main_call2_v1, val_main_call2_v2, val_main_call2_v3, val_main_call2_v4, val_main_call2_cst, val_main_call2_cst_0]
  rfl

theorem gate_slope_0 (s : Fin 16384) (k : Fin 1408) : val_main_v22_1 x0 x1 (ix2 s k)
    = Ffn.sig (proj (mt x0) (mw x1) s (column 0 k)) * (1 - Ffn.sig (proj (mt x0) (mw x1) s (column 0 k))) := by
  rw [← gate_sig_0]
  pointwise [val_main_v22_1, val_main_call2_v6, val_main_call2_v7, val_main_call2_cst_1]

theorem dup_at_0 (s : Fin 16384) (k : Fin 1408) : val_main_v27 x0 x1 x3 x4 (ix2 s k) = dup (mt x0) (mw x1) (md x3) (mt x4) s (column 0 k) := by
  show val_main_v21 x0 x1 (ix2 s k) * val_main_v22_2 x0 x1 (ix2 s k) * val_main_v26 x3 x4 (ix2 s k) = _
  rw [gate_in_0, gate_sig_0, da_at_0, dup, dupAt, mul_comm]

include h0 h2 h3 h4 in
theorem dgate_at_0 (s : Fin 16384) (k : Fin 1408) :
    val_main_v30 x0 x1 x2 x3 x4 (ix2 s k) = dgate (mt x0) (mw x1) (mw x2) (md x3) (mt x4) s (column 0 k) := by
  show val_main_v26 x3 x4 (ix2 s k) * val_main_v23 x0 x2 (ix2 s k) * val_main_v22_2 x0 x1 (ix2 s k)
    + val_main_v21 x0 x1 (ix2 s k) * (val_main_v26 x3 x4 (ix2 s k) * val_main_v23 x0 x2 (ix2 s k)) * val_main_v22_1 x0 x1 (ix2 s k) = _
  rw [gate_in_0, factor_in_0, gate_slope_0, gate_sig_0, da_at_0]
  exact gate_sum x0 x4 x2 x3 h0 h2 h3 h4 s (column 0 k) _

include h0 h2 h3 h4 in
/-- The gradient of the tokens through the first half of the hidden columns. -/
theorem tokens_0 (s : Fin 16384) (d : Fin 1024) :
    val_main_v32 x0 x1 x2 x3 x4 (ix2 s d) = dTok (mt x0) (mw x1) (mw x2) (md x3) (mt x4) 0 s d := by
  have eu : val_main_v29 x0 x1 x2 x3 x4 (ix2 s d) = ∑ k : Fin 1408, dup (mt x0) (mw x1) (md x3) (mt x4) s (column 0 k) * mw x2 d (column 0 k) := by
    pointwise [val_main_v29, val_main_v19]
    refine Finset.sum_congr rfl fun k _ => ?_
    rw [dup_at_0]
    simp only [first_column]
  have eg : val_main_v31 x0 x1 x2 x3 x4 (ix2 s d) = ∑ k : Fin 1408, dgate (mt x0) (mw x1) (mw x2) (md x3) (mt x4) s (column 0 k) * mw x1 d (column 0 k) := by
    pointwise [val_main_v31, val_main_v18]
    refine Finset.sum_congr rfl fun k _ => ?_
    rw [dgate_at_0 x0 x4 x1 x2 x3 h0 h2 h3 h4]
    simp only [first_column]
  show val_main_v29 x0 x1 x2 x3 x4 (ix2 s d) + val_main_v31 x0 x1 x2 x3 x4 (ix2 s d) = _
  rw [eu, eg, sum_half, sum_half]
  exact halves (mt x0) (mw x1) (mw x2) (md x3) (mt x4) 0 s d

/-! ## The second half -/

theorem gate_in_1 (s : Fin 16384) (k : Fin 1408) : val_main_v36 x0 x1 (ix2 s k) = proj (mt x0) (mw x1) s (column 1 k) := by
  pointwise [val_main_v36, val_main_v33]
  rfl

theorem factor_in_1 (s : Fin 16384) (k : Fin 1408) : val_main_v38 x0 x2 (ix2 s k) = proj (mt x0) (mw x2) s (column 1 k) := by
  pointwise [val_main_v38, val_main_v34]
  rfl

theorem da_at_1 (s : Fin 16384) (k : Fin 1408) : val_main_v41 x3 x4 (ix2 s k) = dact (md x3) (mt x4) s (column 1 k) := by
  pointwise [val_main_v41, val_main_v35]
  rfl

theorem gate_sig_1 (s : Fin 16384) (k : Fin 1408) : val_main_v37_2 x0 x1 (ix2 s k) = Ffn.sig (proj (mt x0) (mw x1) s (column 1 k)) := by
  rw [sig_eq, ← gate_in_1]
  pointwise [val_main_v37_2, val_main_call4_v0, val_main_call4_v1, val_main_call4_v2, val_main_call4_v3, val_main_call4_v4, val_main_call4_cst, val_main_call4_cst_0]
  rfl

theorem gate_slope_1 (s : Fin 16384) (k : Fin 1408) : val_main_v37_1 x0 x1 (ix2 s k)
    = Ffn.sig (proj (mt x0) (mw x1) s (column 1 k)) * (1 - Ffn.sig (proj (mt x0) (mw x1) s (column 1 k))) := by
  rw [← gate_sig_1]
  pointwise [val_main_v37_1, val_main_call4_v6, val_main_call4_v7, val_main_call4_cst_1]

theorem dup_at_1 (s : Fin 16384) (k : Fin 1408) : val_main_v42 x0 x1 x3 x4 (ix2 s k) = dup (mt x0) (mw x1) (md x3) (mt x4) s (column 1 k) := by
  show val_main_v36 x0 x1 (ix2 s k) * val_main_v37_2 x0 x1 (ix2 s k) * val_main_v41 x3 x4 (ix2 s k) = _
  rw [gate_in_1, gate_sig_1, da_at_1, dup, dupAt, mul_comm]

include h0 h2 h3 h4 in
theorem dgate_at_1 (s : Fin 16384) (k : Fin 1408) :
    val_main_v45 x0 x1 x2 x3 x4 (ix2 s k) = dgate (mt x0) (mw x1) (mw x2) (md x3) (mt x4) s (column 1 k) := by
  show val_main_v41 x3 x4 (ix2 s k) * val_main_v38 x0 x2 (ix2 s k) * val_main_v37_2 x0 x1 (ix2 s k)
    + val_main_v36 x0 x1 (ix2 s k) * (val_main_v41 x3 x4 (ix2 s k) * val_main_v38 x0 x2 (ix2 s k)) * val_main_v37_1 x0 x1 (ix2 s k) = _
  rw [gate_in_1, factor_in_1, gate_slope_1, gate_sig_1, da_at_1]
  exact gate_sum x0 x4 x2 x3 h0 h2 h3 h4 s (column 1 k) _

include h0 h2 h3 h4 in
/-- The gradient of the tokens through the second half of the hidden columns. -/
theorem tokens_1 (s : Fin 16384) (d : Fin 1024) :
    val_main_v47 x0 x1 x2 x3 x4 (ix2 s d) = dTok (mt x0) (mw x1) (mw x2) (md x3) (mt x4) 1 s d := by
  have eu : val_main_v44 x0 x1 x2 x3 x4 (ix2 s d) = ∑ k : Fin 1408, dup (mt x0) (mw x1) (md x3) (mt x4) s (column 1 k) * mw x2 d (column 1 k) := by
    pointwise [val_main_v44, val_main_v34]
    refine Finset.sum_congr rfl fun k _ => ?_
    rw [dup_at_1]
    rfl
  have eg : val_main_v46 x0 x1 x2 x3 x4 (ix2 s d) = ∑ k : Fin 1408, dgate (mt x0) (mw x1) (mw x2) (md x3) (mt x4) s (column 1 k) * mw x1 d (column 1 k) := by
    pointwise [val_main_v46, val_main_v33]
    refine Finset.sum_congr rfl fun k _ => ?_
    rw [dgate_at_1 x0 x4 x1 x2 x3 h0 h2 h3 h4]
    rfl
  show val_main_v44 x0 x1 x2 x3 x4 (ix2 s d) + val_main_v46 x0 x1 x2 x3 x4 (ix2 s d) = _
  rw [eu, eg, sum_half, sum_half]
  exact halves (mt x0) (mw x1) (mw x2) (md x3) (mt x4) 1 s d

/-- The reference's gradient of the last product's weights. -/
theorem ref_down (n : Fin 4) (r : Fin 704) (d : Fin 1024) :
    val_main_v59 x0 x1 x2 x4 (ix3 n r d) = dWd (mt x0) (mw x1) (mw x2) (mt x4) (col n r) d := by
  rw [← down_at]
  pointwise [val_main_v59, val_main_v58]

include h0 h2 h3 h4 in
/-- The reference's gradients of the two gate matrices. -/
theorem ref_gates (n : Fin 4) (r : Fin 1408) (d : Fin 1024) :
    val_main_v57 x0 x1 x2 x3 x4 (ix3 n r d) = dWgu (mt x0) (mw x1) (mw x2) (md x3) (mt x4) n r d := by
  revert r
  refine row_cases (fun r => ?_) fun r => ?_
  · rw [dWgu_up, ← gate_at x0 x4 x1 x2 x3 h0 h2 h3 h4]
    unfold val_main_v57 val_main_v56
    pointwise [val_main_v53]
  · rw [dWgu_low, ← factor_at]
    unfold val_main_v57 val_main_v56
    pointwise [val_main_v55]

include h0 h2 h3 h4 in
/-- The reference's gradient of the tokens through each half of the hidden columns. -/
theorem ref_tokens (p : Fin 2) (s : Fin 16384) (d : Fin 1024) :
    val_main_v51 x0 x1 x2 x3 x4 (ix3 p s d) = dTok (mt x0) (mw x1) (mw x2) (md x3) (mt x4) p s d := by
  fin_cases p
  · refine Eq.trans ?_ (tokens_0 x0 x4 x1 x2 x3 h0 h2 h3 h4 s d)
    unfold val_main_v51 val_main_v50
    pointwise [val_main_v48]
  · refine Eq.trans ?_ (tokens_1 x0 x4 x1 x2 x3 h0 h2 h3 h4 s d)
    unfold val_main_v51 val_main_v50
    pointwise [val_main_v49]

end Cert.ReferenceIdeal.Entries
-- ==== Proof.Finite.lean ====
/-
The precondition read entry by entry: the tokens, the incoming gradient and all weights but the gate's are real numbers.
-/
module

public import proofs.«01_k».proof.Defs
public import proofs.«01_k».proof.Proof.Host
public import Idealize.ShloMosaic.Lib.ReduceAll

@[expose] public section

set_option maxRecDepth 16384

noncomputable section

namespace Cert.Finite

open Cert.Pre_finite Idealize.ShloMosaic Idealize.ShloMosaic.TcCoe Idealize.SL.Sem Cert.Ffn

/-- The shapes the precondition takes: each by computation. -/
instance facts : Cert.Pre_finite.Facts where
  bcast_S_S16384x1024 := by decide
  reducesTo_S16384x1024_S_d0_1 := by decide
  h_S_ := by decide
  bcast_S_S1024x2816 := by decide
  reducesTo_S1024x2816_S_d0_1 := by decide
  bcast_S_S2816x1024 := by decide
  reducesTo_S2816x1024_S_d0_1 := by decide

/-- The one index of a scalar. -/
abbrev i0 : S_.Idx := fun a => a.elim0

/-- A number that compares below infinity in absolute value is real. -/
theorem isReal_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  refine isReal_of_abs x ?_
  by_contra hn
  simp [Ideal.cmp, hn] at h

theorem both {p q : BitVec 1} (h : IntOp.andi p q = 1#1) : p = 1#1 ∧ q = 1#1 := by
  revert p q; decide

/-- The predicate's four conjuncts, each for every entry. -/
theorem of_fn (x0 : FVec Ideal S16384x1024 .f32) (x1 x2 : FVec Ideal S1024x2816 .f32) (x3 : FVec Ideal S2816x1024 .f32) (x4 : FVec Ideal S16384x1024 .f32)
    (h : Cert.Pre_finite.fn (F := Ideal) x0 x1 x2 x3 x4 i0 = 1#1) :
    (∀ i, IsReal (x0 i)) ∧ (∀ i, IsReal (x2 i)) ∧ (∀ i, IsReal (x3 i)) ∧ ∀ i, IsReal (x4 i) := by
  obtain ⟨h, h4⟩ := both (show IntOp.andi _ _ = 1#1 from h)
  obtain ⟨h, h3⟩ := both (show IntOp.andi _ _ = 1#1 from h)
  obtain ⟨h0, h2⟩ := both (show IntOp.andi _ _ = 1#1 from h)
  exact ⟨fun i => isReal_of_lt _ (Host.reduce_andi_all _ _ _ _ i0 h0 i), fun i => isReal_of_lt _ (Host.reduce_andi_all _ _ _ _ i0 h2 i),
    fun i => isReal_of_lt _ (Host.reduce_andi_all _ _ _ _ i0 h3 i), fun i => isReal_of_lt _ (Host.reduce_andi_all _ _ _ _ i0 h4 i)⟩

/-- The precondition on the kernel's memory, on one device. -/
theorem of_pre (m : (ℓ : Loc Cert.KernelIdeal.nD Cert.KernelIdeal.τ Cert.KernelIdeal.sig) → Buf (Elt Ideal) ℓ) (h : Cert.Pre_KernelIdeal_finite m) (c : Dev Cert.KernelIdeal.nD) :
    (∀ s d, IsReal (Cert.KernelIdeal.Host.H m c s d)) ∧ (∀ d f, IsReal (Cert.KernelIdeal.Host.Wu m c d f))
      ∧ (∀ f d, IsReal (Cert.KernelIdeal.Host.Wd m c f d)) ∧ ∀ s d, IsReal (Cert.KernelIdeal.Host.Do m c s d) := by
  obtain ⟨h0, h2, h3, h4⟩ := of_fn _ _ _ _ _ (congrFun (h c) i0)
  exact ⟨fun s d => h0 _, fun d f => h2 _, fun f d => h3 _, fun s d => h4 _⟩

end Cert.Finite

end
-- ==== Proof.lean ====
/-
The certificate's claims, for the backward launch and then for the forward launch. The backward kernel's run (Held) is written
once over any float values: it gives both frames, and with the values of the three results (Results) its side of the
algebraic claim. The reference's entries (Entries) are the same sums
(Spec), given the real numbers the precondition provides (Finite). The forward kernel's six results (FwdResults) and its
reference's entries (FwdEntries) are the sums of FwdSpec and FwdNorm, whatever the inputs.
-/
module

public import proofs.«01_k».proof.Defs
public import proofs.«01_k».proof.Proof.Gen.Kernel
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.FwdResults
public import proofs.«01_k».proof.Proof.FwdEntries
public import proofs.«01_k».proof.Proof.Results
public import proofs.«01_k».proof.Proof.Entries
public import proofs.«01_k».proof.Proof.Finite

@[expose] public section

noncomputable section

namespace Cert.Proof

open Idealize.ShloMosaic Idealize.ShloMosaic.TcCoe Idealize.SL.Sem Cert.Ffn Cert.KernelIdeal.Host Cert.KernelIdeal.Blocks

set_option maxRecDepth 16384 in
/-- The kernel and its reading at extended reals have the same body at every grid point. -/
theorem body_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

set_option maxRecDepth 16384 in
/-- They run the same table of bodies. -/
theorem defs_eq {F : FTy → Type} [FloatOps F] : Cert.Kernel.defs (F := F) = Cert.KernelIdeal.defs (F := F) :=
  congrArg (Pipeline.defs (Cert.KernelIdeal.pcfgs (F := F))) body_eq

set_option maxRecDepth 16384 in
/-- The kernel terminates with its arguments unchanged and every counter at zero: the run of the same text, at words. -/
theorem frame_kernel : Cert.quiescent_Kernel := by
  intro m ρ _
  rw [defs_eq]
  exact Cert.KernelIdeal.Held.frame (F := Bits) m ρ

/-- The same of the kernel read at extended reals. -/
theorem frame_ideal : Cert.quiescent_KernelIdeal := fun m ρ _ => Cert.KernelIdeal.Held.frame m ρ

/-- The reference's run leaves its arguments and, having no semaphore, every counter. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun c => (h c).2.2.2, sem_eq_zero_of_no_sems (by decide) r.2⟩)
    (Cert.ReferenceIdeal.Value.run m ρ)

section Kernel

variable (m : (ℓ : Loc Cert.KernelIdeal.nD Cert.KernelIdeal.τ Cert.KernelIdeal.sig) → Buf (Elt Ideal) ℓ) (ρ : Dev Cert.KernelIdeal.nD → PrngReg)

open Cert.KernelIdeal in
/-- The kernel's run with its three results named and its arguments unchanged. -/
theorem kernel_run : θ_run (defs (F := Ideal)) (onTc (τ := τ) (main (F := Ideal))) ⟨m, fun _ => 0, ρ⟩ (fun r => ∀ c : Dev nD,
      r.2.mem ((c.tc : Thread nD τ).loc main_v18_0) = tokenGrad m c
      ∧ r.2.mem ((c.tc : Thread nD τ).loc main_v18_1) = (Held.hv m c cfg0.N).1
      ∧ r.2.mem ((c.tc : Thread nD τ).loc main_v18_2) = (Held.hv m c cfg0.N).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1.1.1 c).1 4).trans (result_tokens m c),
      (h.1.1.2 c main_v18_1 (by decide)).trans (Held.G_2 m c), (h.1.1.2 c main_v18_2 (by decide)).trans (Held.G_3 m c), h.2 c⟩)
    (θ_run_and (Held.run_main m ρ) (Held.unchanged m ρ))

end Kernel

/-- The kernel and the reference end with equal results where every input but the gate's weights is finite. -/
theorem algebraic : Cert.algebraic_KernelIdeal_ReferenceIdeal_pre_finite (hPre_finite := Finite.facts) := by
  intro m ρ m' ρ' hpre hag
  refine ⟨fun c => tokenGrad m c, fun c => (Cert.KernelIdeal.Held.hv m c Cert.KernelIdeal.cfg0.N).1,
    fun c => (Cert.KernelIdeal.Held.hv m c Cert.KernelIdeal.cfg0.N).2, kernel_run m ρ, ?_⟩
  refine (θ_run Cert.ReferenceIdeal.defs _ _).mono (fun r h c => ?_) (Cert.ReferenceIdeal.Value.run m' ρ')
  obtain ⟨e0, e1, e2, e3, e4⟩ := hag c
  obtain ⟨r0, r2, r3, r4⟩ := Finite.of_pre m hpre c
  obtain ⟨h51, h57, h59, hargs⟩ := h c
  refine ⟨h51.trans ?_, h57.trans ?_, h59.trans ?_, hargs⟩
  · rw [Cert.ReferenceIdeal.Read.val_main_v51_eq, e0, e1, e2, e3, e4]
    funext i
    refine (congrArg _ (ValueIdx.eq_ix3 i)).trans ?_
    exact Cert.ReferenceIdeal.Entries.ref_tokens _ _ _ _ _ r0 r2 r3 r4 (i 0) (i 1) (i 2)
  · rw [Cert.ReferenceIdeal.Read.val_main_v57_eq, e0, e1, e2, e3, e4]
    funext i
    refine ((congrArg _ (ValueIdx.eq_ix3 i)).trans ?_).trans (congrArg _ (ValueIdx.eq_ix3 i)).symm
    exact (Cert.ReferenceIdeal.Entries.ref_gates _ _ _ _ _ r0 r2 r3 r4 (i 0) (i 1) (i 2)).trans (result_gates m c (i 0) (i 1) (i 2)).symm
  · rw [Cert.ReferenceIdeal.Read.val_main_v59_eq, e0, e1, e2, e4]
    funext i
    refine ((congrArg _ (ValueIdx.eq_ix3 i)).trans ?_).trans (congrArg _ (ValueIdx.eq_ix3 i)).symm
    exact (Cert.ReferenceIdeal.Entries.ref_down _ _ _ _ (i 0) (i 1) (i 2)).trans (result_down m c (i 0) (i 1) (i 2)).symm

/-! ## The forward launch -/

set_option maxRecDepth 16384 in
/-- The forward kernel and its reading at extended reals have the same body at every grid point. -/
theorem body_eq2 {F : FTy → Type} [FloatOps F] : Cert.Kernel2.defs₀ (F := F) = Cert.Kernel2Ideal.defs₀ (F := F) := by
  unfold Cert.Kernel2.defs₀ Cert.Kernel2Ideal.defs₀
  refine congrArg Defs.onTc (funext fun l => funext fun a => ?_)
  match l, a with
  | 0, (t, s) => rfl

set_option maxRecDepth 16384 in
/-- They run the same table of bodies. -/
theorem defs_eq2 {F : FTy → Type} [FloatOps F] : Cert.Kernel2.defs (F := F) = Cert.Kernel2Ideal.defs (F := F) :=
  congrArg (Pipeline.defs (Cert.Kernel2Ideal.pcfgs (F := F))) body_eq2

set_option maxRecDepth 16384 in
/-- The forward kernel terminates with its arguments unchanged and every counter at zero. -/
theorem frame_kernel2 : Cert.quiescent_Kernel2 := by
  intro m ρ _
  rw [defs_eq2]
  exact Cert.Kernel2Ideal.Gen.frame (F := Bits) m ρ

/-- The same of the forward kernel read at extended reals. -/
theorem frame_ideal2 : Cert.quiescent_Kernel2Ideal := fun m ρ _ => Cert.Kernel2Ideal.Gen.frame m ρ

/-- The forward reference's run leaves its arguments and every counter. -/
theorem frame_reference2 : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run m ρ)

section Forward

open Cert.Kernel2Ideal Cert.Kernel2Ideal.Points

variable (m : (ℓ : Loc nD τ sig) → Buf (Elt Ideal) ℓ) (ρ : Dev nD → PrngReg)

/-- The forward kernel's run with its six results named and its arguments unchanged. -/
theorem kernel2_run : θ_run (defs (F := Ideal)) (onTc (τ := τ) (main (F := Ideal))) ⟨m, fun _ => 0, ρ⟩ (fun r => ∀ c : Dev nD,
      r.2.mem ((c.tc : Thread nD τ).loc main_v10_0) = rHid m c
      ∧ r.2.mem ((c.tc : Thread nD τ).loc main_v10_3) = rThrough m c
      ∧ r.2.mem ((c.tc : Thread nD τ).loc main_v10_4) = rSlope m c
      ∧ r.2.mem ((c.tc : Thread nD τ).loc main_v10_5) = rLoss m c
      ∧ r.2.mem ((c.tc : Thread nD τ).loc main_v10_6) = rGain m c
      ∧ r.2.mem ((c.tc : Thread nD τ).loc main_v10_7) = rScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
      obtain ⟨h4, h5, h6, h7, h8, h9, hargs⟩ := h c
      exact ⟨h4.trans (result_hid m c), h5.trans (result_through m c), h6.trans (result_slope m c), h7.trans (result_loss m c), h8.trans (result_gain m c),
        h9.trans (result_scale m c), hargs⟩)
    (Cert.Kernel2Ideal.Value.run_blocks m ρ)

end Forward

/-- An index of a one-row array. -/
theorem one_row {b : ℕ} (i : (⟨2, ![1, b]⟩ : Shape).Idx) : i = ix2 (0 : Fin 1) (i 1 : Fin b) := by
  funext a
  match a with
  | ⟨0, _⟩ => exact Fin.ext (by have : (i 0).val < 1 := (i 0).isLt; show (i 0).val = 0; omega)
  | ⟨1, _⟩ => rfl

/-- An index of a one-column array. -/
theorem one_column {a : ℕ} (i : (⟨2, ![a, 1]⟩ : Shape).Idx) : i = ix2 (i 0 : Fin a) (0 : Fin 1) := by
  funext k
  match k with
  | ⟨0, _⟩ => rfl
  | ⟨1, _⟩ => exact Fin.ext (by have : (i 1).val < 1 := (i 1).isLt; show (i 1).val = 0; omega)

open Cert.Kernel2Ideal.Points in
/-- The forward kernel and its reference end with equal results. -/
theorem algebraic2 : Cert.algebraic_Kernel2Ideal_Reference2Ideal := by
  intro m ρ m' ρ' _ hag
  refine ⟨fun c => rHid m c, fun c => rThrough m c, fun c => rSlope m c, fun c => rLoss m c, fun c => rGain m c, fun c => rScale m c, kernel2_run m ρ, ?_⟩
  refine (θ_run Cert.Reference2Ideal.defs _ _).mono (fun r h c => ?_) (Cert.Reference2Ideal.Value.run m' ρ')
  obtain ⟨e0, e1, e2, e3, e4, e5, e6⟩ := hag c
  obtain ⟨h0, h5, h1, h2, h3, h4, hargs⟩ := h c
  refine ⟨h0.trans ?_, h5.trans ?_, h1.trans ?_, h2.trans ?_, h3.trans ?_, h4.trans ?_, hargs⟩
  · rw [Cert.Reference2Ideal.Read.val_main_v70_eq, e0, e2]
    funext i
    refine (congrArg _ (ValueIdx.eq_ix2 i)).trans ?_
    exact Cert.Reference2Ideal.Entries.hid_at _ _ (i 0) (i 1)
  · refine (Cert.Reference2Ideal.Read.val_main_v71_eq m' c).trans ?_
    rw [e0, e1, e2, e3, e4, e5, e6]
    funext i
    refine (congrArg _ (ValueIdx.eq_ix2 i)).trans ?_
    exact Cert.Reference2Ideal.Entries.through_at _ _ _ _ _ _ _ (i 0) (i 1)
  · refine (Cert.Reference2Ideal.Read.val_main_v49_eq m' c).trans ?_
    rw [e0, e1, e2, e3, e4, e5, e6]
    funext i
    refine (congrArg _ (ValueIdx.eq_ix2 i)).trans ?_
    exact Cert.Reference2Ideal.Entries.dy_at _ _ _ _ _ _ _ (i 0) (i 1)
  · refine (Cert.Reference2Ideal.Read.val_main_v72_eq m' c).trans ?_
    rw [e0, e1, e2, e3, e4, e5, e6]
    funext i
    refine (congrArg _ (one_row i)).trans ?_
    exact Cert.Reference2Ideal.Entries.loss_at _ _ _ _ _ _ _ (i 1)
  · refine (Cert.Reference2Ideal.Read.val_main_v73_eq m' c).trans ?_
    rw [e0, e1, e2, e3, e4, e5, e6]
    funext i
    refine (congrArg _ (one_row i)).trans ?_
    exact Cert.Reference2Ideal.Entries.gain_at _ _ _ _ _ _ _ (i 1)
  · rw [Cert.Reference2Ideal.Read.val_main_v81_eq, e0]
    funext i
    refine (congrArg _ (one_column i)).trans ?_
    exact Cert.Reference2Ideal.Entries.scale_at _ (i 0)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Finite.facts,
    frame_kernel, frame_ideal, fun m ρ _ => Cert.KernelIdeal.Held.frame m ρ,
    fun m ρ _ => reference_run m ρ, fun m ρ _ => reference_run m ρ, frame_kernel2, frame_ideal2, frame_reference2,
    trivial, algebraic, trivial, algebraic2⟩

end Cert.Proof

end
